-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S4x3x512x1024 : Shape := ⟨4, ![4, 3, 512, 1024]⟩
abbrev S4x3 : Shape := ⟨2, ![4, 3]⟩
abbrev S4 : Shape := ⟨1, ![4]⟩
abbrev S_ : Shape := ⟨0, ![]⟩
abbrev S512x512 : Shape := ⟨2, ![512, 512]⟩
abbrev S512x1024 : Shape := ⟨2, ![512, 1024]⟩
abbrev S1x1x512x1024 : Shape := ⟨4, ![1, 1, 512, 1024]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S512x4096, .f32⟩
  | .local _ .vmem, ⟨0, _⟩ => ⟨S8192x512, .f32⟩
  | .local _ .vmem, ⟨1, _⟩ => ⟨S512x4096, .f32⟩
  | .local _ .vmem, ⟨2, _⟩ => ⟨S512x4096, .f32⟩
  | .local _ .vmem, ⟨3, _⟩ => ⟨S4x3x512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 5 27 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let v14 : BitVec 32 := Scalar.addi v13 c_m1_i32
  let c16_i32_10 : BitVec 32 := 16#32
  let v15 : BitVec 32 := Scalar.remsi v14 c16_i32_10
  let c512_i32 : BitVec 32 := 512#32
  let v16 : BitVec 32 := Scalar.muli v15 c512_i32
  let v17 : Index := Scalar.indexCast v16
  let c0 : Index := 0#32
  ![v17.toNat, 0]
def k0_off1_at (r : Fin 32) : BitVec 32 :=
  if r.val < 16 then
    if r.val < 8 then
      if r.val < 4 then
        if r.val < 2 then
          if r.val < 1 then
            4294967295#32
          else
            1#32
        else
          if r.val < 3 then
            4294967294#32
          else
            2#32
      else
        if r.val < 6 then
          if r.val < 5 then
            4294967293#32
          else
            3#32
        else
          if r.val < 7 then
            4294967292#32
          else
            4#32
    else
      if r.val < 12 then
        if r.val < 10 then
          if r.val < 9 then
            4294967291#32
          else
            5#32
        else
          if r.val < 11 then
            4294967290#32
          else
            6#32
      else
        if r.val < 14 then
          if r.val < 13 then
            4294967289#32
          else
            7#32
        else
          if r.val < 15 then
            4294967288#32
          else
            8#32
  else
    if r.val < 24 then
      if r.val < 20 then
        if r.val < 18 then
          if r.val < 17 then
            4294967287#32
          else
            9#32
        else
          if r.val < 19 then
            4294967286#32
          else
            10#32
      else
        if r.val < 22 then
          if r.val < 21 then
            4294967285#32
          else
            11#32
        else
          if r.val < 23 then
            4294967284#32
          else
            12#32
    else
      if r.val < 28 then
        if r.val < 26 then
          if r.val < 25 then
            4294967283#32
          else
            13#32
        else
          if r.val < 27 then
            4294967282#32
          else
            14#32
      else
        if r.val < 30 then
          if r.val < 29 then
            4294967281#32
          else
            15#32
        else
          if r.val < 31 then
            4294967280#32
          else
            16#32
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v27 : BitVec 32 := Scalar.muli v7 c1_i32_24
  let v28 : BitVec 32 := Scalar.addi c0_i32_25 v27
  v28.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_48 : BitVec 32 := 1#32
  let v51 : BitVec 32 := Scalar.muli v5 c1_i32_48
  let v52 : BitVec 32 := Scalar.addi c0_i32_49 v51
  v52.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_73 : BitVec 32 := 1#32
  let v75 : BitVec 32 := Scalar.muli v7 c1_i32_73
  let v76 : BitVec 32 := Scalar.addi c0_i32_74 v75
  v76.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_96 : BitVec 32 := 1#32
  let v99 : BitVec 32 := Scalar.muli v5 c1_i32_96
  let v100 : BitVec 32 := Scalar.addi c0_i32_97 v99
  v100.toNat
def k0_dev7 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_146 : BitVec 32 := 1#32
  let v143 : BitVec 32 := Scalar.muli v5 c1_i32_146
  let v144 : BitVec 32 := Scalar.addi c0_i32_147 v143
  v144.toNat
def k0_dev8 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_156 : BitVec 32 := 1#32
  let v145 : BitVec 32 := Scalar.muli v7 c1_i32_156
  let v146 : BitVec 32 := Scalar.addi c0_i32_157 v145
  v146.toNat
def k0_dev9 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_207 : BitVec 32 := 1#32
  let v189 : BitVec 32 := Scalar.muli v7 c1_i32_207
  let v190 : BitVec 32 := Scalar.addi c0_i32_208 v189
  v190.toNat
def k0_dev10 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_217 : BitVec 32 := 1#32
  let v191 : BitVec 32 := Scalar.muli v5 c1_i32_217
  let v192 : BitVec 32 := Scalar.addi c0_i32_218 v191
  v192.toNat
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_268 : BitVec 32 := 1#32
  let v235 : BitVec 32 := Scalar.muli v5 c1_i32_268
  let v236 : BitVec 32 := Scalar.addi c0_i32_269 v235
  v236.toNat
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_278 : BitVec 32 := 1#32
  let v237 : BitVec 32 := Scalar.muli v7 c1_i32_278
  let v238 : BitVec 32 := Scalar.addi c0_i32_279 v237
  v238.toNat
def k0_dev13 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_329 : BitVec 32 := 1#32
  let v281 : BitVec 32 := Scalar.muli v7 c1_i32_329
  let v282 : BitVec 32 := Scalar.addi c0_i32_330 v281
  v282.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_339 : BitVec 32 := 1#32
  let v283 : BitVec 32 := Scalar.muli v5 c1_i32_339
  let v284 : BitVec 32 := Scalar.addi c0_i32_340 v283
  v284.toNat
def k0_dev15 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_389 : BitVec 32 := 1#32
  let v327 : BitVec 32 := Scalar.muli v5 c1_i32_389
  let v328 : BitVec 32 := Scalar.addi c0_i32_390 v327
  v328.toNat
def k0_dev16 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_402 : BitVec 32 := 1#32
  let v331 : BitVec 32 := Scalar.muli v7 c1_i32_402
  let v332 : BitVec 32 := Scalar.addi c0_i32_403 v331
  v332.toNat
def k0_dev17 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v375 : BitVec 32 := Scalar.muli v7 c1_i32_453
  let v376 : BitVec 32 := Scalar.addi c0_i32_454 v375
  v376.toNat
def k0_dev18 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_466 : BitVec 32 := 1#32
  let v379 : BitVec 32 := Scalar.muli v5 c1_i32_466
  let v380 : BitVec 32 := Scalar.addi c0_i32_467 v379
  v380.toNat
def k0_dev19 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_517 : BitVec 32 := 1#32
  let v423 : BitVec 32 := Scalar.muli v5 c1_i32_517
  let v424 : BitVec 32 := Scalar.addi c0_i32_518 v423
  v424.toNat
def k0_dev20 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_530 : BitVec 32 := 1#32
  let v427 : BitVec 32 := Scalar.muli v7 c1_i32_530
  let v428 : BitVec 32 := Scalar.addi c0_i32_531 v427
  v428.toNat
def k0_dev21 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_581 : BitVec 32 := 1#32
  let v471 : BitVec 32 := Scalar.muli v7 c1_i32_581
  let v472 : BitVec 32 := Scalar.addi c0_i32_582 v471
  v472.toNat
def k0_dev22 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_594 : BitVec 32 := 1#32
  let v475 : BitVec 32 := Scalar.muli v5 c1_i32_594
  let v476 : BitVec 32 := Scalar.addi c0_i32_595 v475
  v476.toNat
def k0_dev23 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_644 : BitVec 32 := 1#32
  let v519 : BitVec 32 := Scalar.muli v5 c1_i32_644
  let v520 : BitVec 32 := Scalar.addi c0_i32_645 v519
  v520.toNat
def k0_dev24 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_657 : BitVec 32 := 1#32
  let v523 : BitVec 32 := Scalar.muli v7 c1_i32_657
  let v524 : BitVec 32 := Scalar.addi c0_i32_658 v523
  v524.toNat
def k0_dev25 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_707 : BitVec 32 := 1#32
  let v567 : BitVec 32 := Scalar.muli v7 c1_i32_707
  let v568 : BitVec 32 := Scalar.addi c0_i32_708 v567
  v568.toNat
def k0_dev26 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_720 : BitVec 32 := 1#32
  let v571 : BitVec 32 := Scalar.muli v5 c1_i32_720
  let v572 : BitVec 32 := Scalar.addi c0_i32_721 v571
  v572.toNat
def k0_dev27 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_771 : BitVec 32 := 1#32
  let v615 : BitVec 32 := Scalar.muli v5 c1_i32_771
  let v616 : BitVec 32 := Scalar.addi c0_i32_772 v615
  v616.toNat
def k0_dev28 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_784 : BitVec 32 := 1#32
  let v619 : BitVec 32 := Scalar.muli v7 c1_i32_784
  let v620 : BitVec 32 := Scalar.addi c0_i32_785 v619
  v620.toNat
def k0_dev29 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_835 : BitVec 32 := 1#32
  let v663 : BitVec 32 := Scalar.muli v7 c1_i32_835
  let v664 : BitVec 32 := Scalar.addi c0_i32_836 v663
  v664.toNat
def k0_dev30 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_848 : BitVec 32 := 1#32
  let v667 : BitVec 32 := Scalar.muli v5 c1_i32_848
  let v668 : BitVec 32 := Scalar.addi c0_i32_849 v667
  v668.toNat
def k0_dev31 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_898 : BitVec 32 := 1#32
  let v711 : BitVec 32 := Scalar.muli v5 c1_i32_898
  let v712 : BitVec 32 := Scalar.addi c0_i32_899 v711
  v712.toNat
def k0_dev32 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_911 : BitVec 32 := 1#32
  let v715 : BitVec 32 := Scalar.muli v7 c1_i32_911
  let v716 : BitVec 32 := Scalar.addi c0_i32_912 v715
  v716.toNat
def k0_dev33 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_961 : BitVec 32 := 1#32
  let v759 : BitVec 32 := Scalar.muli v7 c1_i32_961
  let v760 : BitVec 32 := Scalar.addi c0_i32_962 v759
  v760.toNat
def k0_dev34 (d0 : Dev nD) : Nat :=
  let c0_i32_975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_974 : BitVec 32 := 1#32
  let v763 : BitVec 32 := Scalar.muli v5 c1_i32_974
  let v764 : BitVec 32 := Scalar.addi c0_i32_975 v763
  v764.toNat
def k0_dev35 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1025 : BitVec 32 := 1#32
  let v807 : BitVec 32 := Scalar.muli v5 c1_i32_1025
  let v808 : BitVec 32 := Scalar.addi c0_i32_1026 v807
  v808.toNat
def k0_dev36 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1038 : BitVec 32 := 1#32
  let v811 : BitVec 32 := Scalar.muli v7 c1_i32_1038
  let v812 : BitVec 32 := Scalar.addi c0_i32_1039 v811
  v812.toNat
def k0_dev37 (d0 : Dev nD) : Nat :=
  let c0_i32_1090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1089 : BitVec 32 := 1#32
  let v855 : BitVec 32 := Scalar.muli v7 c1_i32_1089
  let v856 : BitVec 32 := Scalar.addi c0_i32_1090 v855
  v856.toNat
def k0_dev38 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1102 : BitVec 32 := 1#32
  let v859 : BitVec 32 := Scalar.muli v5 c1_i32_1102
  let v860 : BitVec 32 := Scalar.addi c0_i32_1103 v859
  v860.toNat
def k0_dev39 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1152 : BitVec 32 := 1#32
  let v903 : BitVec 32 := Scalar.muli v5 c1_i32_1152
  let v904 : BitVec 32 := Scalar.addi c0_i32_1153 v903
  v904.toNat
def k0_dev40 (d0 : Dev nD) : Nat :=
  let c0_i32_1166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1165 : BitVec 32 := 1#32
  let v907 : BitVec 32 := Scalar.muli v7 c1_i32_1165
  let v908 : BitVec 32 := Scalar.addi c0_i32_1166 v907
  v908.toNat
def k0_dev41 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1215 : BitVec 32 := 1#32
  let v951 : BitVec 32 := Scalar.muli v7 c1_i32_1215
  let v952 : BitVec 32 := Scalar.addi c0_i32_1216 v951
  v952.toNat
def k0_dev42 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1228 : BitVec 32 := 1#32
  let v955 : BitVec 32 := Scalar.muli v5 c1_i32_1228
  let v956 : BitVec 32 := Scalar.addi c0_i32_1229 v955
  v956.toNat
def k0_dev43 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1279 : BitVec 32 := 1#32
  let v999 : BitVec 32 := Scalar.muli v5 c1_i32_1279
  let v1000 : BitVec 32 := Scalar.addi c0_i32_1280 v999
  v1000.toNat
def k0_dev44 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1292 : BitVec 32 := 1#32
  let v1003 : BitVec 32 := Scalar.muli v7 c1_i32_1292
  let v1004 : BitVec 32 := Scalar.addi c0_i32_1293 v1003
  v1004.toNat
def k0_dev45 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1343 : BitVec 32 := 1#32
  let v1047 : BitVec 32 := Scalar.muli v7 c1_i32_1343
  let v1048 : BitVec 32 := Scalar.addi c0_i32_1344 v1047
  v1048.toNat
def k0_dev46 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1356 : BitVec 32 := 1#32
  let v1051 : BitVec 32 := Scalar.muli v5 c1_i32_1356
  let v1052 : BitVec 32 := Scalar.addi c0_i32_1357 v1051
  v1052.toNat
def k0_dev47 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1406 : BitVec 32 := 1#32
  let v1095 : BitVec 32 := Scalar.muli v5 c1_i32_1406
  let v1096 : BitVec 32 := Scalar.addi c0_i32_1407 v1095
  v1096.toNat
def k0_dev48 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1419 : BitVec 32 := 1#32
  let v1099 : BitVec 32 := Scalar.muli v7 c1_i32_1419
  let v1100 : BitVec 32 := Scalar.addi c0_i32_1420 v1099
  v1100.toNat
def k0_dev49 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1469 : BitVec 32 := 1#32
  let v1143 : BitVec 32 := Scalar.muli v7 c1_i32_1469
  let v1144 : BitVec 32 := Scalar.addi c0_i32_1470 v1143
  v1144.toNat
def k0_dev50 (d0 : Dev nD) : Nat :=
  let c0_i32_1483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1482 : BitVec 32 := 1#32
  let v1147 : BitVec 32 := Scalar.muli v5 c1_i32_1482
  let v1148 : BitVec 32 := Scalar.addi c0_i32_1483 v1147
  v1148.toNat
def k0_dev51 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1533 : BitVec 32 := 1#32
  let v1191 : BitVec 32 := Scalar.muli v5 c1_i32_1533
  let v1192 : BitVec 32 := Scalar.addi c0_i32_1534 v1191
  v1192.toNat
def k0_dev52 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1546 : BitVec 32 := 1#32
  let v1195 : BitVec 32 := Scalar.muli v7 c1_i32_1546
  let v1196 : BitVec 32 := Scalar.addi c0_i32_1547 v1195
  v1196.toNat
def k0_dev53 (d0 : Dev nD) : Nat :=
  let c0_i32_1598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1597 : BitVec 32 := 1#32
  let v1239 : BitVec 32 := Scalar.muli v7 c1_i32_1597
  let v1240 : BitVec 32 := Scalar.addi c0_i32_1598 v1239
  v1240.toNat
def k0_dev54 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1610 : BitVec 32 := 1#32
  let v1243 : BitVec 32 := Scalar.muli v5 c1_i32_1610
  let v1244 : BitVec 32 := Scalar.addi c0_i32_1611 v1243
  v1244.toNat
def k0_dev55 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1660 : BitVec 32 := 1#32
  let v1287 : BitVec 32 := Scalar.muli v5 c1_i32_1660
  let v1288 : BitVec 32 := Scalar.addi c0_i32_1661 v1287
  v1288.toNat
def k0_dev56 (d0 : Dev nD) : Nat :=
  let c0_i32_1674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1673 : BitVec 32 := 1#32
  let v1291 : BitVec 32 := Scalar.muli v7 c1_i32_1673
  let v1292 : BitVec 32 := Scalar.addi c0_i32_1674 v1291
  v1292.toNat
def k0_dev57 (d0 : Dev nD) : Nat :=
  let c0_i32_1724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1723 : BitVec 32 := 1#32
  let v1335 : BitVec 32 := Scalar.muli v7 c1_i32_1723
  let v1336 : BitVec 32 := Scalar.addi c0_i32_1724 v1335
  v1336.toNat
def k0_dev58 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1736 : BitVec 32 := 1#32
  let v1339 : BitVec 32 := Scalar.muli v5 c1_i32_1736
  let v1340 : BitVec 32 := Scalar.addi c0_i32_1737 v1339
  v1340.toNat
def k0_dev59 (d0 : Dev nD) : Nat :=
  let c0_i32_1788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1787 : BitVec 32 := 1#32
  let v1383 : BitVec 32 := Scalar.muli v5 c1_i32_1787
  let v1384 : BitVec 32 := Scalar.addi c0_i32_1788 v1383
  v1384.toNat
def k0_dev60 (d0 : Dev nD) : Nat :=
  let c0_i32_1801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1800 : BitVec 32 := 1#32
  let v1387 : BitVec 32 := Scalar.muli v7 c1_i32_1800
  let v1388 : BitVec 32 := Scalar.addi c0_i32_1801 v1387
  v1388.toNat
def k0_dev61 (d0 : Dev nD) : Nat :=
  let c0_i32_1852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1851 : BitVec 32 := 1#32
  let v1431 : BitVec 32 := Scalar.muli v7 c1_i32_1851
  let v1432 : BitVec 32 := Scalar.addi c0_i32_1852 v1431
  v1432.toNat
def k0_dev62 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1864 : BitVec 32 := 1#32
  let v1435 : BitVec 32 := Scalar.muli v5 c1_i32_1864
  let v1436 : BitVec 32 := Scalar.addi c0_i32_1865 v1435
  v1436.toNat
def k0_dev63 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1914 : BitVec 32 := 1#32
  let v1479 : BitVec 32 := Scalar.muli v5 c1_i32_1914
  let v1480 : BitVec 32 := Scalar.addi c0_i32_1915 v1479
  v1480.toNat
def k0_dev64 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1927 : BitVec 32 := 1#32
  let v1483 : BitVec 32 := Scalar.muli v7 c1_i32_1927
  let v1484 : BitVec 32 := Scalar.addi c0_i32_1928 v1483
  v1484.toNat
def k0_dev65 (d0 : Dev nD) : Nat :=
  let c0_i32_1978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1977 : BitVec 32 := 1#32
  let v1527 : BitVec 32 := Scalar.muli v7 c1_i32_1977
  let v1528 : BitVec 32 := Scalar.addi c0_i32_1978 v1527
  v1528.toNat
def k0_dev66 (d0 : Dev nD) : Nat :=
  let c0_i32_1991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1990 : BitVec 32 := 1#32
  let v1531 : BitVec 32 := Scalar.muli v5 c1_i32_1990
  let v1532 : BitVec 32 := Scalar.addi c0_i32_1991 v1531
  v1532.toNat
def k0_dev67 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2041 : BitVec 32 := 1#32
  let v1575 : BitVec 32 := Scalar.muli v5 c1_i32_2041
  let v1576 : BitVec 32 := Scalar.addi c0_i32_2042 v1575
  v1576.toNat
def k0_dev68 (d0 : Dev nD) : Nat :=
  let c0_i32_2055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2054 : BitVec 32 := 1#32
  let v1579 : BitVec 32 := Scalar.muli v7 c1_i32_2054
  let v1580 : BitVec 32 := Scalar.addi c0_i32_2055 v1579
  v1580.toNat
def k0_dev69 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2105 : BitVec 32 := 1#32
  let v1623 : BitVec 32 := Scalar.muli v7 c1_i32_2105
  let v1624 : BitVec 32 := Scalar.addi c0_i32_2106 v1623
  v1624.toNat
def k0_dev70 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2118 : BitVec 32 := 1#32
  let v1627 : BitVec 32 := Scalar.muli v5 c1_i32_2118
  let v1628 : BitVec 32 := Scalar.addi c0_i32_2119 v1627
  v1628.toNat
def k0_dev71 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2168 : BitVec 32 := 1#32
  let v1671 : BitVec 32 := Scalar.muli v5 c1_i32_2168
  let v1672 : BitVec 32 := Scalar.addi c0_i32_2169 v1671
  v1672.toNat
def k0_dev72 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2181 : BitVec 32 := 1#32
  let v1675 : BitVec 32 := Scalar.muli v7 c1_i32_2181
  let v1676 : BitVec 32 := Scalar.addi c0_i32_2182 v1675
  v1676.toNat
def k0_dev73 (d0 : Dev nD) : Nat :=
  let c0_i32_2232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2231 : BitVec 32 := 1#32
  let v1719 : BitVec 32 := Scalar.muli v7 c1_i32_2231
  let v1720 : BitVec 32 := Scalar.addi c0_i32_2232 v1719
  v1720.toNat
def k0_dev74 (d0 : Dev nD) : Nat :=
  let c0_i32_2245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2244 : BitVec 32 := 1#32
  let v1723 : BitVec 32 := Scalar.muli v5 c1_i32_2244
  let v1724 : BitVec 32 := Scalar.addi c0_i32_2245 v1723
  v1724.toNat
def k0_dev75 (d0 : Dev nD) : Nat :=
  let c0_i32_2296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2295 : BitVec 32 := 1#32
  let v1767 : BitVec 32 := Scalar.muli v5 c1_i32_2295
  let v1768 : BitVec 32 := Scalar.addi c0_i32_2296 v1767
  v1768.toNat
def k0_dev76 (d0 : Dev nD) : Nat :=
  let c0_i32_2309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2308 : BitVec 32 := 1#32
  let v1771 : BitVec 32 := Scalar.muli v7 c1_i32_2308
  let v1772 : BitVec 32 := Scalar.addi c0_i32_2309 v1771
  v1772.toNat
def k0_dev77 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2359 : BitVec 32 := 1#32
  let v1815 : BitVec 32 := Scalar.muli v7 c1_i32_2359
  let v1816 : BitVec 32 := Scalar.addi c0_i32_2360 v1815
  v1816.toNat
def k0_dev78 (d0 : Dev nD) : Nat :=
  let c0_i32_2373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2372 : BitVec 32 := 1#32
  let v1819 : BitVec 32 := Scalar.muli v5 c1_i32_2372
  let v1820 : BitVec 32 := Scalar.addi c0_i32_2373 v1819
  v1820.toNat
def k0_dev79 (d0 : Dev nD) : Nat :=
  let c0_i32_2423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2422 : BitVec 32 := 1#32
  let v1863 : BitVec 32 := Scalar.muli v5 c1_i32_2422
  let v1864 : BitVec 32 := Scalar.addi c0_i32_2423 v1863
  v1864.toNat
def k0_dev80 (d0 : Dev nD) : Nat :=
  let c0_i32_2436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2435 : BitVec 32 := 1#32
  let v1867 : BitVec 32 := Scalar.muli v7 c1_i32_2435
  let v1868 : BitVec 32 := Scalar.addi c0_i32_2436 v1867
  v1868.toNat
def k0_dev81 (d0 : Dev nD) : Nat :=
  let c0_i32_2486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2485 : BitVec 32 := 1#32
  let v1911 : BitVec 32 := Scalar.muli v7 c1_i32_2485
  let v1912 : BitVec 32 := Scalar.addi c0_i32_2486 v1911
  v1912.toNat
def k0_dev82 (d0 : Dev nD) : Nat :=
  let c0_i32_2499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2498 : BitVec 32 := 1#32
  let v1915 : BitVec 32 := Scalar.muli v5 c1_i32_2498
  let v1916 : BitVec 32 := Scalar.addi c0_i32_2499 v1915
  v1916.toNat
def k0_dev83 (d0 : Dev nD) : Nat :=
  let c0_i32_2550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2549 : BitVec 32 := 1#32
  let v1959 : BitVec 32 := Scalar.muli v5 c1_i32_2549
  let v1960 : BitVec 32 := Scalar.addi c0_i32_2550 v1959
  v1960.toNat
def k0_dev84 (d0 : Dev nD) : Nat :=
  let c0_i32_2563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2562 : BitVec 32 := 1#32
  let v1963 : BitVec 32 := Scalar.muli v7 c1_i32_2562
  let v1964 : BitVec 32 := Scalar.addi c0_i32_2563 v1963
  v1964.toNat
def k0_dev85 (d0 : Dev nD) : Nat :=
  let c0_i32_2614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2613 : BitVec 32 := 1#32
  let v2007 : BitVec 32 := Scalar.muli v7 c1_i32_2613
  let v2008 : BitVec 32 := Scalar.addi c0_i32_2614 v2007
  v2008.toNat
def k0_dev86 (d0 : Dev nD) : Nat :=
  let c0_i32_2627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2626 : BitVec 32 := 1#32
  let v2011 : BitVec 32 := Scalar.muli v5 c1_i32_2626
  let v2012 : BitVec 32 := Scalar.addi c0_i32_2627 v2011
  v2012.toNat
def k0_dev87 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2676 : BitVec 32 := 1#32
  let v2055 : BitVec 32 := Scalar.muli v5 c1_i32_2676
  let v2056 : BitVec 32 := Scalar.addi c0_i32_2677 v2055
  v2056.toNat
def k0_dev88 (d0 : Dev nD) : Nat :=
  let c0_i32_2690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2689 : BitVec 32 := 1#32
  let v2059 : BitVec 32 := Scalar.muli v7 c1_i32_2689
  let v2060 : BitVec 32 := Scalar.addi c0_i32_2690 v2059
  v2060.toNat
def k0_dev89 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2739 : BitVec 32 := 1#32
  let v2103 : BitVec 32 := Scalar.muli v7 c1_i32_2739
  let v2104 : BitVec 32 := Scalar.addi c0_i32_2740 v2103
  v2104.toNat
def k0_dev90 (d0 : Dev nD) : Nat :=
  let c0_i32_2753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2752 : BitVec 32 := 1#32
  let v2107 : BitVec 32 := Scalar.muli v5 c1_i32_2752
  let v2108 : BitVec 32 := Scalar.addi c0_i32_2753 v2107
  v2108.toNat
def k0_dev91 (d0 : Dev nD) : Nat :=
  let c0_i32_2804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2803 : BitVec 32 := 1#32
  let v2151 : BitVec 32 := Scalar.muli v5 c1_i32_2803
  let v2152 : BitVec 32 := Scalar.addi c0_i32_2804 v2151
  v2152.toNat
def k0_dev92 (d0 : Dev nD) : Nat :=
  let c0_i32_2817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2816 : BitVec 32 := 1#32
  let v2155 : BitVec 32 := Scalar.muli v7 c1_i32_2816
  let v2156 : BitVec 32 := Scalar.addi c0_i32_2817 v2155
  v2156.toNat
def k0_dev93 (d0 : Dev nD) : Nat :=
  let c0_i32_2868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2867 : BitVec 32 := 1#32
  let v2199 : BitVec 32 := Scalar.muli v7 c1_i32_2867
  let v2200 : BitVec 32 := Scalar.addi c0_i32_2868 v2199
  v2200.toNat
def k0_dev94 (d0 : Dev nD) : Nat :=
  let c0_i32_2881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2880 : BitVec 32 := 1#32
  let v2203 : BitVec 32 := Scalar.muli v5 c1_i32_2880
  let v2204 : BitVec 32 := Scalar.addi c0_i32_2881 v2203
  v2204.toNat
def k0_dev95 (d0 : Dev nD) : Nat :=
  let c0_i32_2931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2930 : BitVec 32 := 1#32
  let v2247 : BitVec 32 := Scalar.muli v5 c1_i32_2930
  let v2248 : BitVec 32 := Scalar.addi c0_i32_2931 v2247
  v2248.toNat
def k0_dev96 (d0 : Dev nD) : Nat :=
  let c0_i32_2944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2943 : BitVec 32 := 1#32
  let v2251 : BitVec 32 := Scalar.muli v7 c1_i32_2943
  let v2252 : BitVec 32 := Scalar.addi c0_i32_2944 v2251
  v2252.toNat
def k0_dev97 (d0 : Dev nD) : Nat :=
  let c0_i32_2994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2993 : BitVec 32 := 1#32
  let v2295 : BitVec 32 := Scalar.muli v7 c1_i32_2993
  let v2296 : BitVec 32 := Scalar.addi c0_i32_2994 v2295
  v2296.toNat
def k0_dev98 (d0 : Dev nD) : Nat :=
  let c0_i32_3007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3006 : BitVec 32 := 1#32
  let v2299 : BitVec 32 := Scalar.muli v5 c1_i32_3006
  let v2300 : BitVec 32 := Scalar.addi c0_i32_3007 v2299
  v2300.toNat
def k0_dev99 (d0 : Dev nD) : Nat :=
  let c0_i32_3058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3057 : BitVec 32 := 1#32
  let v2343 : BitVec 32 := Scalar.muli v5 c1_i32_3057
  let v2344 : BitVec 32 := Scalar.addi c0_i32_3058 v2343
  v2344.toNat
def k0_dev100 (d0 : Dev nD) : Nat :=
  let c0_i32_3071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3070 : BitVec 32 := 1#32
  let v2347 : BitVec 32 := Scalar.muli v7 c1_i32_3070
  let v2348 : BitVec 32 := Scalar.addi c0_i32_3071 v2347
  v2348.toNat
def k0_dev101 (d0 : Dev nD) : Nat :=
  let c0_i32_3122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3121 : BitVec 32 := 1#32
  let v2391 : BitVec 32 := Scalar.muli v7 c1_i32_3121
  let v2392 : BitVec 32 := Scalar.addi c0_i32_3122 v2391
  v2392.toNat
def k0_dev102 (d0 : Dev nD) : Nat :=
  let c0_i32_3135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3134 : BitVec 32 := 1#32
  let v2395 : BitVec 32 := Scalar.muli v5 c1_i32_3134
  let v2396 : BitVec 32 := Scalar.addi c0_i32_3135 v2395
  v2396.toNat
def k0_dev103 (d0 : Dev nD) : Nat :=
  let c0_i32_3185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3184 : BitVec 32 := 1#32
  let v2439 : BitVec 32 := Scalar.muli v5 c1_i32_3184
  let v2440 : BitVec 32 := Scalar.addi c0_i32_3185 v2439
  v2440.toNat
def k0_dev104 (d0 : Dev nD) : Nat :=
  let c0_i32_3198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3197 : BitVec 32 := 1#32
  let v2443 : BitVec 32 := Scalar.muli v7 c1_i32_3197
  let v2444 : BitVec 32 := Scalar.addi c0_i32_3198 v2443
  v2444.toNat
def k0_dev105 (d0 : Dev nD) : Nat :=
  let c0_i32_3248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3247 : BitVec 32 := 1#32
  let v2487 : BitVec 32 := Scalar.muli v7 c1_i32_3247
  let v2488 : BitVec 32 := Scalar.addi c0_i32_3248 v2487
  v2488.toNat
def k0_dev106 (d0 : Dev nD) : Nat :=
  let c0_i32_3261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3260 : BitVec 32 := 1#32
  let v2491 : BitVec 32 := Scalar.muli v5 c1_i32_3260
  let v2492 : BitVec 32 := Scalar.addi c0_i32_3261 v2491
  v2492.toNat
def k0_dev107 (d0 : Dev nD) : Nat :=
  let c0_i32_3312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3311 : BitVec 32 := 1#32
  let v2535 : BitVec 32 := Scalar.muli v5 c1_i32_3311
  let v2536 : BitVec 32 := Scalar.addi c0_i32_3312 v2535
  v2536.toNat
def k0_dev108 (d0 : Dev nD) : Nat :=
  let c0_i32_3325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3324 : BitVec 32 := 1#32
  let v2539 : BitVec 32 := Scalar.muli v7 c1_i32_3324
  let v2540 : BitVec 32 := Scalar.addi c0_i32_3325 v2539
  v2540.toNat
def k0_dev109 (d0 : Dev nD) : Nat :=
  let c0_i32_3376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3375 : BitVec 32 := 1#32
  let v2583 : BitVec 32 := Scalar.muli v7 c1_i32_3375
  let v2584 : BitVec 32 := Scalar.addi c0_i32_3376 v2583
  v2584.toNat
def k0_dev110 (d0 : Dev nD) : Nat :=
  let c0_i32_3389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3388 : BitVec 32 := 1#32
  let v2587 : BitVec 32 := Scalar.muli v5 c1_i32_3388
  let v2588 : BitVec 32 := Scalar.addi c0_i32_3389 v2587
  v2588.toNat
def k0_dev111 (d0 : Dev nD) : Nat :=
  let c0_i32_3448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3447 : BitVec 32 := 1#32
  let v2631 : BitVec 32 := Scalar.muli v7 c1_i32_3447
  let v2632 : BitVec 32 := Scalar.addi c0_i32_3448 v2631
  v2632.toNat
def k0_dev112 (d0 : Dev nD) : Nat :=
  let c0_i32_3507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3506 : BitVec 32 := 1#32
  let v2675 : BitVec 32 := Scalar.muli v5 c1_i32_3506
  let v2676 : BitVec 32 := Scalar.addi c0_i32_3507 v2675
  v2676.toNat
def k0_dev113 (d0 : Dev nD) : Nat :=
  let c0_i32_3567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3566 : BitVec 32 := 1#32
  let v2719 : BitVec 32 := Scalar.muli v7 c1_i32_3566
  let v2720 : BitVec 32 := Scalar.addi c0_i32_3567 v2719
  v2720.toNat
def k0_dev114 (d0 : Dev nD) : Nat :=
  let c0_i32_3627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3626 : BitVec 32 := 1#32
  let v2763 : BitVec 32 := Scalar.muli v5 c1_i32_3626
  let v2764 : BitVec 32 := Scalar.addi c0_i32_3627 v2763
  v2764.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
# The kernel's body, step by step

The body is unrolled: four flows, fifteen steps each. This module names the buffers, semaphores and devices of one step
and writes the step as a program followed by a rest `k`, for a flow `f` and a step `s`.
-/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Buffers and semaphores -/

abbrev xM : Memref sig .tc .vmem S8192x512 .f32 := Memref.whole cc0_stg0_0
abbrev wM : Memref sig .tc .vmem S512x4096 .f32 := Memref.whole cc0_stg1_0
abbrev oM : Memref sig .tc .vmem S512x4096 .f32 := Memref.whole cc0_stg2_0
abbrev sM : Memref sig .tc .vmem S4x3x512x1024 .bf16 := Memref.whole cc0_scratch0

/-- The slot a step's index uses. -/
abbrev sl (s : ℕ) : Fin 3 := ⟨s % 3, Nat.mod_lt _ (by decide)⟩

theorem slot_inb (f : Fin 4) (k : Fin 3) :
    ∀ a, (![f.val, k.val, 0, 0] : Fin 4 → Nat) a + S1x1x512x1024.size a ≤ S4x3x512x1024.size a := by
  revert f k; decide

abbrev slotR (f : Fin 4) (k : Fin 3) : Rect S4x3x512x1024 :=
  Rect.unit (s := S4x3x512x1024) ![f.val, k.val, 0, 0] S1x1x512x1024.size (slot_inb f k)

theorem slot_packed (f : Fin 4) (k : Fin 3) : (slotR f k).PackedRows (EltTy.packing .bf16) := by
  revert f k; decide

theorem slot_words (f : Fin 4) (k : Fin 3) : (slotR f k).WholeWords (EltTy.packing .bf16) := by
  revert f k; decide

/-- One slot of the communication buffer, as the transfers name it. -/
abbrev slotM (f : Fin 4) (k : Fin 3) : Memref sig .tc .vmem S512x1024 .bf16 :=
  (sM.slice (slotR f k) (fun _ => rfl)).squeeze S512x1024 squeezes_S1x1x512x1024_S512x1024

theorem slot_exact (f : Fin 4) (k : Fin 3) : (slotM f k).view.WordExact :=
  ((Memref.isWhole_whole _ : sM.IsWhole).wordExact_slice rfl _ (slot_words f k)).reshape _ _

theorem sem2_inb (f : Fin 4) (k : Fin 3) : ∀ a, (![f.val, k.val] : Fin 2 → Nat) a + S1x1.size a ≤ S4x3.size a := by
  revert f k; decide

theorem sem1_inb (f : Fin 4) : ∀ a, (![f.val] : Fin 1 → Nat) a + S1.size a ≤ S4.size a := by
  revert f; decide

abbrev sendS (f : Fin 4) (k : Fin 3) : DmaSem sig :=
  ((cc0_scratch1.slice (Rect.unit (s := S4x3) ![f.val, k.val] S1x1.size (sem2_inb f k))).squeeze S_ squeezes_S1x1_S_).sem
abbrev recvS (f : Fin 4) (k : Fin 3) : DmaSem sig :=
  ((cc0_scratch2.slice (Rect.unit (s := S4x3) ![f.val, k.val] S1x1.size (sem2_inb f k))).squeeze S_ squeezes_S1x1_S_).sem
abbrev credS (f : Fin 4) : Sem sig :=
  ((cc0_scratch3.slice (Rect.unit (s := S4) ![f.val] S1.size (sem1_inb f))).squeeze S_ squeezes_S1_S_).sem
abbrev barS : Sem sig := (SemArray.scalar (sig.barrier 0 rfl) : Sems sig S_).sem

/-! ## Neighbours, columns, rows -/

/-- The device flow `f` sends to, as the program computes it. -/
abbrev tgtK : Fin 4 → Dev nD → Dev nD
  | 0, c | 2, c => ⟨k0_dev2 c, k0_dev2_lt c⟩
  | 1, c | 3, c => ⟨k0_dev1 c, k0_dev1_lt c⟩
/-- The device flow `f` receives from (and sends credit to), as the program computes it. -/
abbrev upK : Fin 4 → Dev nD → Dev nD
  | 0, c | 2, c => ⟨k0_dev1 c, k0_dev1_lt c⟩
  | 1, c | 3, c => ⟨k0_dev2 c, k0_dev2_lt c⟩

/-- The first column of flow `f`. -/
abbrev colOf : Fin 4 → ℕ | 0 => 0 | 1 => 2048 | 2 => 1024 | 3 => 3072

theorem col_inb (f : Fin 4) : ∀ a, (![0, colOf f] : Fin 2 → Nat) a + S512x1024.size a ≤ S512x4096.size a := by
  revert f; decide

abbrev colR (f : Fin 4) : Rect S512x4096 := Rect.unit (s := S512x4096) ![0, colOf f] S512x1024.size (col_inb f)

/-- The load of rows number `r` of the program's list. -/
abbrev rowR (c : Dev nD) (r : Fin 32) : Rect S8192x512 :=
  Rect.unit (s := S8192x512) (k0_off1 c (k0_off1_at r)) S512x512.size (k0_off1_inb c r)

/-! ## The step's programs -/

abbrev Pr (F : FTy → Type) [FloatOps F] (α : Type) : Type 1 := Prog (TpuEff nD τ sig (Elt F) Λ₀ .tc) α

variable {α : Type}

/-- The product of rows `r` of `x` with the columns of flow `f` of the weights, handed to the rest. -/
@[reducible] def pPart (c : Dev nD) (f : Fin 4) (r : Fin 32) (k : FVec F S512x1024 .f32 → Pr F α) : Pr F α :=
  .op (.load xM (rowR c r).toLoadRect (View.loadsAt_vmem h_S512x512)) fun a =>
  .op (.load wM (colR f).toLoadRect (View.loadsAt_vmem h_S512x1024)) fun b =>
  k (matmul dot_S512x512_S512x1024_S512x1024_1_0_0_1_n_n none (shapeCast S512x512 a shapeCasts_S512x512_S512x512 : FVec F S512x512 .f32)
    (shapeCast S512x1024 b shapeCasts_S512x1024_S512x1024) (constant S512x1024 .f32 0x00000000#32))

/-- A value stored in a slot (the program loads the slot first and drops what it loads). -/
@[reducible] def pStore (f : Fin 4) (i : Fin 3) (v : FVec F S512x1024 .bf16) (k : Pr F α) : Pr F α :=
  .op (.load sM (slotR f i).toLoadRect (View.loadsAt_vmem h_S1x1x512x1024)) fun _ =>
  .op (.store sM (slotR f i) (shapeCast S1x1x512x1024 v shapeCasts_S512x1024_S1x1x512x1024 : FVec F S1x1x512x1024 .bf16) Finset.univ
    (View.stores_vmem h_S1x1x512x1024 ((Memref.isWhole_whole _ : sM.IsWhole).storeExact_slice rfl _ (slot_packed f i)) (fun _ => rfl)) (.inl rfl)) fun _ =>
  k

/-- The start of a transfer from slot `i` to slot `j` of the device `n`. -/
@[reducible] def pSend (n : Dev nD) (f : Fin 4) (i j : Fin 3) (k : Pr F α) : Pr F α :=
  .op (.enqueueDma (slotM f i) (.remote (Dev.tc n) (slotM f j) (.dma (sendS f i))) (.dma (recvS f j))
    (slot_exact f i) (slot_exact f j) ⟨⟨rfl, Or.inl rfl⟩, trivial⟩) fun _ => k

/-- The wait for the transfer from slot `i` into slot `j` on the receiving side, -/
@[reducible] def pWaitRecv (f : Fin 4) (i j : Fin 3) (k : Pr F α) : Pr F α :=
  .op (.waitDma2 (recvS f j) (slotM f i) (slotM f j) (slot_exact f i) (slot_exact f j)) fun _ => k

/-- and on the sending side. -/
@[reducible] def pWaitSend (f : Fin 4) (i j : Fin 3) (k : Pr F α) : Pr F α :=
  .op (.waitDma2 (sendS f i) (slotM f j) (slotM f i) (slot_exact f j) (slot_exact f i)) fun _ => k

@[reducible] def pSignal (n : Dev nD) (s : Sem sig) (k : Pr F α) : Pr F α :=
  .op (.semSignal (n : Thread nD τ) s (1#32).toInt) fun _ => k
@[reducible] def pWait (s : Sem sig) (w : BitVec 32) (k : Pr F α) : Pr F α :=
  .op (.semWait s w.toInt) fun _ => k

/-- A received block plus the partial product, stored back in the same slot. -/
@[reducible] def pAccum (f : Fin 4) (j : Fin 3) (p : FVec F S512x1024 .f32) (k : Pr F α) : Pr F α :=
  .op (.load sM (slotR f j).toLoadRect (View.loadsAt_vmem h_S1x1x512x1024)) fun a =>
  pStore f j (truncf .bf16 (addf (extf .f32 (shapeCast S512x1024 a shapeCasts_S1x1x512x1024_S512x1024 : FVec F S512x1024 .bf16) bitsLt_bf16_f32) p) bitsLt_bf16_f32) k

/-- The last received block plus the partial product, stored in the result's columns. -/
@[reducible] def pFinal (f : Fin 4) (j : Fin 3) (p : FVec F S512x1024 .f32) (k : Pr F α) : Pr F α :=
  .op (.load sM (slotR f j).toLoadRect (View.loadsAt_vmem h_S1x1x512x1024)) fun a =>
  .op (.load oM (colR f).toLoadRect (View.loadsAt_vmem h_S512x1024)) fun _ =>
  .op (.store oM (colR f) (addf (extf .f32 (shapeCast S512x1024 a shapeCasts_S1x1x512x1024_S512x1024 : FVec F S512x1024 .bf16) bitsLt_bf16_f32) p) Finset.univ
    (View.stores_vmem_bits_univ h_S512x1024 rfl) (.inl rfl)) fun _ => k

/-- The first block of a flow computed and stored, before its first transfer, -/
@[reducible] def stepA (c : Dev nD) (f : Fin 4) (r : Fin 32) (k : Pr F α) : Pr F α :=
  pPart c f r fun p => pStore f 2 (truncf .bf16 p bitsLt_bf16_f32) k

/-- the first step of a flow: no credit is waited for, -/
@[reducible] def stepZ (c : Dev nD) (f : Fin 4) (s : ℕ) (r : Fin 32) (k : Pr F α) : Pr F α :=
  pPart c f r fun p => pWaitRecv f (sl (s + 2)) (sl s) <| pAccum f (sl s) p <| pWaitSend f (sl (s + 2)) (sl s) <| pSignal (upK f c) (credS f) <|
    pSend (tgtK f c) f (sl s) (sl (s + 1)) k

/-- a middle step, -/
@[reducible] def stepM (c : Dev nD) (f : Fin 4) (s : ℕ) (r : Fin 32) (k : Pr F α) : Pr F α :=
  pPart c f r fun p => pWaitRecv f (sl (s + 2)) (sl s) <| pAccum f (sl s) p <| pWaitSend f (sl (s + 2)) (sl s) <| pSignal (upK f c) (credS f) <|
    pWait (credS f) 1#32 <| pSend (tgtK f c) f (sl s) (sl (s + 1)) k

/-- the last step with a transfer: no credit is given, -/
@[reducible] def stepL (c : Dev nD) (f : Fin 4) (s : ℕ) (r : Fin 32) (k : Pr F α) : Pr F α :=
  pPart c f r fun p => pWaitRecv f (sl (s + 2)) (sl s) <| pAccum f (sl s) p <| pWaitSend f (sl (s + 2)) (sl s) <|
    pWait (credS f) 1#32 <| pSend (tgtK f c) f (sl s) (sl (s + 1)) k

/-- and the last step. -/
@[reducible] def stepF (c : Dev nD) (f : Fin 4) (s : ℕ) (r : Fin 32) (k : Pr F α) : Pr F α :=
  pPart c f r fun p => pWaitRecv f (sl (s + 2)) (sl s) <| pFinal f (sl s) p <| pWaitSend f (sl (s + 2)) (sl s) k

end Cert.RS

end
-- ==== Proof.Protocol.lean ====
/-
# The protocol of the ring reduce-scatter

Four flows go round the ring of sixteen devices, two in each direction. In flow `f` a device passes fifteen blocks on:
transfer `t` (0 to 14) goes from slot `(t + 2) % 3` of the device's buffer to slot `t % 3` of its target's. Of the
cells of a device, for each flow:

* the send cell of transfer `t` and the receive cell of transfer `t`, both in round `t / 3`, one duty each;
* the credit cell, one round of thirteen duties of one unit: duty `r` says that slot `(r + 2) % 3` of the target is
  free for transfer `r + 2`.  Units carry no order, so duty `r` says the same of every earlier one: after `j` units
  one of the duties taken has number `j - 1` or above;
* and one barrier cell for all flows, with the two neighbours' units: slots 0 and 1 are free for transfers 0 and 1.

That a slot is free is counted by the slot's owner (`Release`): transfer `t` is write `t / 3 + 1` of its slot.
-/
module

public import proofs.«01_k».proof.Proof.Steps
public import Idealize.ShloMosaic.Lib.Rounds
public import Idealize.ShloMosaic.Lib.Release

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)
open Idealize.ShloMosaic.Pipeline (Dat Cfg Window BodyObligation cellOf)

variable {F : FTy → Type} [FloatOps F]

/-! ## The resource algebra -/

/-- A slot: its device, flow and number. -/
abbrev Key : Type := Dev nD × Fin 4 × Fin 3
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev EW : Emb (UB × USlots Key) (MT nD τ sig ℕ (Elt F) ℕ UU ℕ) := embR
abbrev ER : Emb UB (MT nD τ sig ℕ (Elt F) ℕ UU ℕ) := (Emb.inl : Emb UB (UB × USlots Key)).trans EW
abbrev ES : Emb (USlots Key) (MT nD τ sig ℕ (Elt F) ℕ UU ℕ) := (Emb.inr : Emb (USlots Key) (UB × USlots Key)).trans EW

variable (m : (ℓ : Loc nD τ sig) → Buf (Elt F) ℓ) (ρ : Dev nD → PrngReg)

/-! ## The ring -/

set_option backward.proofsInPublic true in
def rt (c : Dev nD) : Dev nD := ⟨(c.val + 1) % 16, Nat.mod_lt _ (by decide)⟩
set_option backward.proofsInPublic true in
def lf (c : Dev nD) : Dev nD := ⟨(c.val + 15) % 16, Nat.mod_lt _ (by decide)⟩

theorem lf_rt (c : Dev nD) : lf (rt c) = c := by revert c; decide
theorem rt_lf (c : Dev nD) : rt (lf c) = c := by revert c; decide
theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)

/-- The device flow `f` sends to, and the one it receives from. -/
def tgt (f : Fin 4) (c : Dev nD) : Dev nD := if f.val % 2 = 0 then rt c else lf c
def up (f : Fin 4) (c : Dev nD) : Dev nD := if f.val % 2 = 0 then lf c else rt c

theorem tgtK_eq (f : Fin 4) (c : Dev nD) : tgtK f c = tgt f c :=
  match f with
  | 0 => dev2_eq c | 1 => dev1_eq c | 2 => dev2_eq c | 3 => dev1_eq c
theorem upK_eq (f : Fin 4) (c : Dev nD) : upK f c = up f c :=
  match f with
  | 0 => dev1_eq c | 1 => dev2_eq c | 2 => dev1_eq c | 3 => dev2_eq c
theorem up_tgt (f : Fin 4) (c : Dev nD) : up f (tgt f c) = c := by
  unfold up tgt; split
  · exact lf_rt c
  · exact rt_lf c
theorem tgt_up (f : Fin 4) (c : Dev nD) : tgt f (up f c) = c := by
  unfold up tgt; split
  · exact rt_lf c
  · exact lf_rt c

/-! ## What each device computes -/

/-- The two arguments' blocks as staged on device `c`. -/
def xv (c : Dev nD) : (cc0_stg0_0 : Ref sig .tc).ty.Contents (Elt F) :=
  (win0_0.blk (0 : Fin 1)).view.read (Elt F) (m ((c : Thread nD τ).loc main_arg0))
def wv (c : Dev nD) : (cc0_stg1_0 : Ref sig .tc).ty.Contents (Elt F) :=
  (win0_1.blk (0 : Fin 1)).view.read (Elt F) (m ((c : Thread nD τ).loc main_arg1))

/-- The number, in the program's list, of the rows flow `f` multiplies at its `j`-th product (from 1). -/
abbrev rIx (f : Fin 4) (j : ℕ) : Fin 32 := ⟨(2 * (j - 1) + f.val % 2) % 32, Nat.mod_lt _ (by decide)⟩

/-- One product: rows `r` of the staged `x`, flow `f`'s columns of the staged weights. -/
def prod (c : Dev nD) (f : Fin 4) (r : Fin 32) : FVec F S512x1024 .f32 :=
  matmul dot_S512x512_S512x1024_S512x1024_1_0_0_1_n_n none
    (shapeCast S512x512 (xM.view.readAt (Elt F) (rowR c r).toLoadRect (xv m c)) shapeCasts_S512x512_S512x512 : FVec F S512x512 .f32)
    (shapeCast S512x1024 (wM.view.readAt (Elt F) (colR f).toLoadRect (wv m c)) shapeCasts_S512x1024_S512x1024)
    (constant S512x1024 .f32 0x00000000#32)

/-- The block device `c` passes on as transfer `t` of flow `f`. -/
def blk : ℕ → Fin 4 → Dev nD → FVec F S512x1024 .bf16
  | 0, f, c => truncf .bf16 (prod m c f (rIx f 1)) bitsLt_bf16_f32
  | s + 1, f, c => truncf .bf16 (addf (extf .f32 (blk s f (up f c)) bitsLt_bf16_f32) (prod m c f (rIx f (s + 2)))) bitsLt_bf16_f32

/-- Flow `f`'s columns of device `c`'s result. -/
def outv (f : Fin 4) (c : Dev nD) : FVec F S512x1024 .f32 :=
  addf (extf .f32 (blk m 14 f (up f c)) bitsLt_bf16_f32) (prod m c f (rIx f 16))

/-! ## Cells -/

abbrev sc (c : Dev nD) (f : Fin 4) (t : ℕ) : GSem nD τ sig := ((c : Thread nD τ), .dma (sendS f (sl (t + 2))))
abbrev rc (c : Dev nD) (f : Fin 4) (t : ℕ) : GSem nD τ sig := ((c : Thread nD τ), .dma (recvS f (sl t)))
abbrev cc (c : Dev nD) (f : Fin 4) : GSem nD τ sig := ((c : Thread nD τ), .reg (credS f))
abbrev bc (c : Dev nD) : GSem nD τ sig := ((c : Thread nD τ), .reg barS)

/-- What a semaphore is for. -/
inductive Kd where
  | bar | send (f : Fin 4) (k : Fin 3) | recv (f : Fin 4) (k : Fin 3) | cred (f : Fin 4) | other
deriving DecidableEq

/-- The kernel's own semaphores in order: sends, receives, credits. -/
abbrev osem : Fin 28 → SemLoc sig := fun i =>
  if h : i.val < 12 then .dma (sendS ⟨i.val / 3, by omega⟩ ⟨i.val % 3, Nat.mod_lt _ (by decide)⟩)
  else if h' : i.val < 24 then .dma (recvS ⟨(i.val - 12) / 3, by omega⟩ ⟨(i.val - 12) % 3, Nat.mod_lt _ (by decide)⟩)
  else .reg (credS ⟨i.val - 24, by omega⟩)

set_option backward.proofsInPublic true in
def kind : SemLoc sig → Kd
  | .reg s => if h : s.val < 4 then .cred ⟨s.val, h⟩ else .bar
  | .dma s =>
    if s.val < 3 then .other
    else if h : s.val < 15 then .send ⟨(s.val - 3) / 3, by omega⟩ ⟨(s.val - 3) % 3, Nat.mod_lt _ (by decide)⟩
    else if h : s.val < 27 then .recv ⟨(s.val - 15) / 3, by omega⟩ ⟨(s.val - 15) % 3, Nat.mod_lt _ (by decide)⟩
    else .other

theorem kind_bar : kind (.reg barS) = .bar := by decide
theorem kind_send : ∀ (f : Fin 4) (k : Fin 3), kind (.dma (sendS f k)) = .send f k := by decide
theorem kind_recv : ∀ (f : Fin 4) (k : Fin 3), kind (.dma (recvS f k)) = .recv f k := by decide
theorem kind_cred : ∀ (f : Fin 4), kind (.reg (credS f)) = .cred f := by decide

/-- The units one transfer counts. -/
abbrev N : ℕ := (slotM 0 0).view.dmaCredit
theorem N_pos : 0 < N := View.dmaCredit_pos _ (by decide)

/-! ## What the cells carry -/

/-- Slot `k` of flow `f` on device `c`, at any contents, -/
def slotAny (q : Key) : sProp 𝕄 := slot ((slotM q.2.1 q.2.2).view.loc (q.1 : Thread nD τ)) (slotM q.2.1 q.2.2).view.set
/-- at given contents (stated through the slot's memref), -/
def slotHas (c : Dev nD) (f : Fin 4) (k : Fin 3) (X : FVec F S512x1024 .bf16) : sProp 𝕄 :=
  owns (c : Thread nD τ) (slotM f k) fullShare X

instance slotAny_storable (q : Key) : BI.Storable (upEmb : UEmb _ 𝕄) (slotAny (F := F) q) := by unfold slotAny; infer_instance
instance slotHas_storable (c : Dev nD) (f : Fin 4) (k : Fin 3) (X) : BI.Storable (upEmb : UEmb _ 𝕄) (slotHas (F := F) c f k X) := by
  unfold slotHas; infer_instance

theorem slotHas_any (c : Dev nD) (f : Fin 4) (k : Fin 3) (X : FVec F S512x1024 .bf16) : slotHas c f k X ⊢ slotAny (F := F) (c, f, k) := by
  unfold slotHas slotAny owns slot
  iintro ⟨%g, %h, H⟩
  iexists g; iexact H

/-- Slots 0 and 1 of device `n` are free for the first two transfers of flow `f`. -/
def relPay (n : Dev nD) (f : Fin 4) : sProp 𝕄 := iprop(released ES (n, f, (0 : Fin 3)) 1 ∗ released ES (n, f, (1 : Fin 3)) 1)
/-- A neighbour's unit of the barrier: duty 0 is the right neighbour's, duty 1 the left one's. -/
def barPay (c : Dev nD) (d : ℕ) : sProp 𝕄 :=
  if d = 0 then iprop(relPay (rt c) 0 ∗ relPay (rt c) 2) else iprop(relPay (lf c) 1 ∗ relPay (lf c) 3)
/-- Device `n` is ready for transfer `r + 2` of flow `f`. -/
def ready (n : Dev nD) (f : Fin 4) (r : ℕ) : sProp 𝕄 :=
  iprop(released ES (n, f, sl (r + 2)) ((r + 2) / 3 + 1) ∗ reached ER (rc n f (r + 2)) ((r + 2) / 3))
/-- It is ready for all of the first `a` of these. -/
def readies (n : Dev nD) (f : Fin 4) (a : ℕ) : sProp 𝕄 := bigSep (Finset.range a) (ready (F := F) n f)

instance relPay_persistent (n : Dev nD) (f : Fin 4) : BI.Persistent (relPay (F := F) n f) := by unfold relPay; infer_instance
instance ready_persistent (n : Dev nD) (f : Fin 4) (r : ℕ) : BI.Persistent (ready (F := F) n f r) := by unfold ready; infer_instance
instance readies_persistent (n : Dev nD) (f : Fin 4) (a : ℕ) : BI.Persistent (readies (F := F) n f a) := by unfold readies; infer_instance
instance relPay_storable (n : Dev nD) (f : Fin 4) : BI.Storable (upEmb : UEmb _ 𝕄) (relPay (F := F) n f) := by unfold relPay; infer_instance
instance ready_storable (n : Dev nD) (f : Fin 4) (r : ℕ) : BI.Storable (upEmb : UEmb _ 𝕄) (ready (F := F) n f r) := by unfold ready; infer_instance
instance readies_storable (n : Dev nD) (f : Fin 4) (a : ℕ) : BI.Storable (upEmb : UEmb _ 𝕄) (readies (F := F) n f a) := by unfold readies; infer_instance
instance barPay_persistent (c : Dev nD) (d : ℕ) : BI.Persistent (barPay (F := F) c d) := by unfold barPay; split <;> infer_instance
instance barPay_storable (c : Dev nD) (d : ℕ) : BI.Storable (upEmb : UEmb _ 𝕄) (barPay (F := F) c d) := by unfold barPay; split <;> infer_instance

def dutiesOf : Kd → ℕ → Finset ℕ
  | .bar, r => if r = 0 then {0, 1} else ∅
  | .send _ _, r | .recv _ _, r => if r < 5 then {0} else ∅
  | .cred _, r => if r = 0 then Finset.range 13 else ∅
  | .other, _ => ∅

def amountOf : Kd → ℕ
  | .send _ _ | .recv _ _ => N
  | _ => 1

def payloadOf (c : Dev nD) : Kd → ℕ → ℕ → sProp 𝕄
  | .bar, _, d => barPay c d
  | .send f k, _, _ => slotAny (c, f, k)
  | .recv f k, r, _ => slotHas c f k (blk m (3 * r + k.val) f (up f c))
  | .cred f, _, d => readies (tgt f c) f (d + 1)
  | .other, _, _ => iprop(emp)

def Rd : Rounds.Schedule (GSem nD τ sig) ℕ 𝕄 where
  duties g r := if g.1.2 = .tc then dutiesOf (kind g.2) r else ∅
  unitless _ := False
  amount g _ _ := amountOf (kind g.2)
  payload g r d := payloadOf m g.1.1 (kind g.2) r d
  amount_pos g _ _ _ := by
    show 0 < amountOf (kind g.2)
    unfold amountOf; split <;> first | exact N_pos | exact Nat.one_pos

instance Rd_payload_storable (g : GSem nD τ sig) (r : ℕ) (d : ℕ) : BI.Storable (upEmb : UEmb _ 𝕄) ((Rd (F := F) m).payload g r d) := by
  show BI.Storable upEmb (payloadOf m g.1.1 (kind g.2) r d)
  unfold payloadOf; split <;> infer_instance

section Sched
variable (c : Dev nD) (f : Fin 4)

theorem duties_at (sm : SemLoc sig) (r : ℕ) : (Rd (F := F) m).duties ((c : Thread nD τ), sm) r = dutiesOf (kind sm) r := by
  dsimp only [Rd]; exact if_pos rfl

theorem duties_bar : (Rd (F := F) m).duties (bc c) 0 = {0, 1} := by rw [duties_at, kind_bar]; rfl
theorem duties_send (t : ℕ) (h : t < 15) : (Rd (F := F) m).duties (sc c f t) (t / 3) = {0} := by
  rw [duties_at, kind_send]; exact if_pos (by omega)
theorem duties_recv (t : ℕ) (h : t < 15) : (Rd (F := F) m).duties (rc c f t) (t / 3) = {0} := by
  rw [duties_at, kind_recv]; exact if_pos (by omega)
theorem duties_cred : (Rd (F := F) m).duties (cc c f) 0 = Finset.range 13 := by rw [duties_at, kind_cred]; rfl
theorem later_bar : ∀ r, 1 ≤ r → (Rd (F := F) m).duties (bc c) r = ∅ := fun r hr => by
  rw [duties_at, kind_bar]; exact if_neg (by omega)
theorem later_send (t : ℕ) : ∀ r, 5 ≤ r → (Rd (F := F) m).duties (sc c f t) r = ∅ := fun r hr => by
  rw [duties_at, kind_send]; exact if_neg (by omega)
theorem later_recv (t : ℕ) : ∀ r, 5 ≤ r → (Rd (F := F) m).duties (rc c f t) r = ∅ := fun r hr => by
  rw [duties_at, kind_recv]; exact if_neg (by omega)
theorem later_cred : ∀ r, 1 ≤ r → (Rd (F := F) m).duties (cc c f) r = ∅ := fun r hr => by
  rw [duties_at, kind_cred]; exact if_neg (by omega)

theorem amount_bar (r d : ℕ) : (Rd (F := F) m).amount (bc c) r d = 1 := by
  show amountOf (kind (.reg barS)) = 1; rw [kind_bar]; rfl
theorem amount_send (t r d : ℕ) : (Rd (F := F) m).amount (sc c f t) r d = N := by
  show amountOf (kind (.dma (sendS f (sl (t + 2))))) = N; rw [kind_send]; rfl
theorem amount_recv (t r d : ℕ) : (Rd (F := F) m).amount (rc c f t) r d = N := by
  show amountOf (kind (.dma (recvS f (sl t)))) = N; rw [kind_recv]; rfl
theorem amount_cred (r d : ℕ) : (Rd (F := F) m).amount (cc c f) r d = 1 := by
  show amountOf (kind (.reg (credS f))) = 1; rw [kind_cred]; rfl

theorem expect_bar : (Rd (F := F) m).expect (bc c) 0 = 2 := by
  unfold Schedule.expect Schedule.amountOf
  rw [duties_bar, Finset.sum_congr rfl fun d _ => amount_bar m c 0 d]; rfl
theorem expect_send (t : ℕ) (h : t < 15) : (Rd (F := F) m).expect (sc c f t) (t / 3) = N := by
  unfold Schedule.expect Schedule.amountOf
  rw [duties_send m c f t h, Finset.sum_singleton, amount_send]
theorem expect_recv (t : ℕ) (h : t < 15) : (Rd (F := F) m).expect (rc c f t) (t / 3) = N := by
  unfold Schedule.expect Schedule.amountOf
  rw [duties_recv m c f t h, Finset.sum_singleton, amount_recv]
theorem expect_cred : (Rd (F := F) m).expect (cc c f) 0 = 13 := by
  unfold Schedule.expect Schedule.amountOf
  rw [duties_cred, Finset.sum_congr rfl fun d _ => amount_cred m c f 0 d]; rfl

theorem payload_bar (r d : ℕ) : (Rd (F := F) m).payload (bc c) r d = barPay c d := by
  show payloadOf m c (kind (.reg barS)) r d = _; rw [kind_bar]; rfl
theorem payload_send (t r d : ℕ) : (Rd (F := F) m).payload (sc c f t) r d = slotAny (c, f, sl (t + 2)) := by
  show payloadOf m c (kind (.dma (sendS f (sl (t + 2))))) r d = _; rw [kind_send]; rfl
theorem payload_recv (t d : ℕ) : (Rd (F := F) m).payload (rc c f t) (t / 3) d = slotHas c f (sl t) (blk m t f (up f c)) := by
  show payloadOf m c (kind (.dma (recvS f (sl t)))) (t / 3) d = _
  rw [kind_recv]
  show slotHas c f (sl t) (blk m (3 * (t / 3) + t % 3) f (up f c)) = _
  rw [Nat.div_add_mod]
theorem payload_cred (r d : ℕ) : (Rd (F := F) m).payload (cc c f) r d = readies (tgt f c) f (d + 1) := by
  show payloadOf m c (kind (.reg (credS f))) r d = _; rw [kind_cred]; rfl

end Sched

/-! ## What is owed, and the levels -/

/-- The transfers of flow `f` from `a` on, owed to the target's receive cells, -/
def OR (c : Dev nD) (f : Fin 4) (a : ℕ) : CellTallies nD τ sig ℕ := ∑ t ∈ Finset.Ico a 15, tallyAt (rc (tgt f c) f t) t N
/-- and the credits from `b` on, owed to the credit cell of the device received from. -/
def OC (c : Dev nD) (f : Fin 4) (b : ℕ) : CellTallies nD τ sig ℕ := ∑ r ∈ Finset.Ico b 13, tallyAt (cc (up f c) f) r 1

theorem Ico_step {a n : ℕ} (h : a < n) : Finset.Ico a n = insert a (Finset.Ico (a + 1) n) := by
  ext x; simp only [Finset.mem_Ico, Finset.mem_insert]; omega
theorem not_mem_Ico (a n : ℕ) : a ∉ Finset.Ico (a + 1) n := by simp

theorem OR_step (c : Dev nD) (f : Fin 4) (a : ℕ) (h : a < 15) : OR c f a = OR c f (a + 1) + tallyAt (rc (tgt f c) f a) a N := by
  unfold OR; rw [Ico_step h, Finset.sum_insert (not_mem_Ico _ _), add_comm]
theorem OC_step (c : Dev nD) (f : Fin 4) (b : ℕ) (h : b < 13) : OC c f b = OC c f (b + 1) + tallyAt (cc (up f c) f) b 1 := by
  unfold OC; rw [Ico_step h, Finset.sum_insert (not_mem_Ico _ _), add_comm]
theorem OR_end (c : Dev nD) (f : Fin 4) (a : ℕ) (h : 15 ≤ a) : OR c f a = 0 := by
  unfold OR; rw [Finset.Ico_eq_empty (by omega), Finset.sum_empty]
theorem OC_end (c : Dev nD) (f : Fin 4) (b : ℕ) (h : 13 ≤ b) : OC c f b = 0 := by
  unfold OC; rw [Finset.Ico_eq_empty (by omega), Finset.sum_empty]

/-- The indices of a TensorCore's cells: transfer and credit numbers. -/
def L (g : GSem nD τ sig) : Finset ℕ := if g.1.2 = .tc then Finset.range 16 else ∅
def lvOf : Kd → ℕ → ℕ
  | .bar, _ => 1
  | .recv _ _, t => 3 * t + 3
  | .cred _, r => 3 * r + 4
  | _, _ => 0
/-- The levels: a receive of transfer `t` is above everything its sender waits for first, credit `r` just above
    receive `r`; barriers under both; sends and staging lowest. -/
def lv (g : GSem nD τ sig) (i : ℕ) : ℕ := lvOf (kind g.2) i

theorem L_of_ne (g : GSem nD τ sig) (h : g.1.2 ≠ .tc) : L g = ∅ := if_neg h
theorem mem_L (c : Dev nD) (sm : SemLoc sig) {i : ℕ} (h : i < 16) : i ∈ L ((c : Thread nD τ), sm) := by
  unfold L; rw [if_pos rfl]; exact Finset.mem_range.mpr h

/-- Everything owed lies above level `n`. -/
def Above (n : ℕ) (O : CellTallies nD τ sig ℕ) : Prop := ∀ g i, 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') := fun g i hp => by
  rw [Pi.add_apply, Finsupp.add_apply] at hp
  by_cases h0 : 0 < O g i
  · exact h g i h0
  · exact h' g i (by omega)
theorem Above.sum {ι : Type} {n : ℕ} {s : Finset ι} {O : ι → CellTallies nD τ sig ℕ} (h : ∀ x ∈ s, Above n (O x)) : Above n (∑ x ∈ s, O x) := by
  classical
  revert h
  refine Finset.induction_on s ?_ ?_
  · intro _; rw [Finset.sum_empty]; exact Above.zero n
  · intro a s ha ih h
    rw [Finset.sum_insert ha]
    exact (h a (Finset.mem_insert_self _ _)).add (ih fun x hx => h x (Finset.mem_insert_of_mem hx))
theorem Above.tally {n : ℕ} {g : GSem nD τ sig} {i k : ℕ} (hi : i ∈ L g) (hn : n < lv g i) : Above n (tallyAt g i k) := fun g' i' hp => by
  rw [tallyAt_apply] at hp
  by_cases h : g' = g ∧ i' = i
  · obtain ⟨rfl, rfl⟩ := h; exact ⟨hi, hn⟩
  · rw [if_neg h] at hp; exact absurd hp (Nat.lt_irrefl 0)

theorem lv_recv (c : Dev nD) (f : Fin 4) (t i : ℕ) : lv (rc c f t) i = 3 * i + 3 := by
  show lvOf (kind (.dma (recvS f (sl t)))) i = _; rw [kind_recv]; rfl
theorem lv_send (c : Dev nD) (f : Fin 4) (t i : ℕ) : lv (sc c f t) i = 0 := by
  show lvOf (kind (.dma (sendS f (sl (t + 2))))) i = _; rw [kind_send]; rfl
theorem lv_cred (c : Dev nD) (f : Fin 4) (i : ℕ) : lv (cc c f) i = 3 * i + 4 := by
  show lvOf (kind (.reg (credS f))) i = _; rw [kind_cred]; rfl
theorem lv_bar (c : Dev nD) (i : ℕ) : lv (bc c) i = 1 := by
  show lvOf (kind (.reg barS)) i = _; rw [kind_bar]; rfl

theorem above_OR {c : Dev nD} {f : Fin 4} {a n : ℕ} (h : n < 3 * a + 3) : Above n (OR c f a) :=
  Above.sum fun t ht => by
    have := Finset.mem_Ico.mp ht
    exact Above.tally (mem_L _ _ (by omega)) (by rw [lv_recv]; omega)
theorem above_OC {c : Dev nD} {f : Fin 4} {b n : ℕ} (h : n < 3 * b + 4) : Above n (OC c f b) :=
  Above.sum fun t ht => by
    have := Finset.mem_Ico.mp ht
    exact Above.tally (mem_L _ _ (by omega)) (by rw [lv_cred]; omega)

/-- A device may wait on a cell not above `n` while all it owes is above `n`. -/
theorem mayWait {n : ℕ} {O : CellTallies nD τ sig ℕ} (hO : Above n O) (c : Dev nD) (sm : SemLoc sig) (i : ℕ) (hi : i < 16)
    (hl : lv ((c : Thread nD τ), sm) i ≤ n) :
    (levAts L lv : sProp 𝕄) ⊢ MayWait (c : Thread nD τ) sm i O :=
  MayOwe.of_cut (L := L) (lev := lv) n (fun p hp => by rw [Finset.mem_singleton.mp hp]; exact mem_L c sm hi)
    (fun g u hg => (hO g u hg).1) (fun p hp => by rw [Finset.mem_singleton.mp hp]; exact hl) (fun g u hg => (hO g u hg).2)

end Cert.RS

end
-- ==== Proof.Slots.lean ====
/-
# The body's loads and stores

The rules for the step's memory accesses: a slot loaded, a slot stored, the columns of the result stored, one partial
product.
-/
module

public import proofs.«01_k».proof.Proof.Protocol

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)

variable {F : FTy → Type} [FloatOps F]

local notation "𝕄" => MT nD τ sig ℕ (Elt F) ℕ UU ℕ

variable (m : (ℓ : Loc nD τ sig) → Buf (Elt F) ℓ)
variable {α : Type}

abbrev 𝒱₀ : Variants := Variants.none
/-- The weakest precondition of a program of device `c`'s core. -/
abbrev WP (c : Dev nD) (p : Pr F α) (Q : α → sProp 𝕄) : sProp 𝕄 :=
  wp frame (wpE (defs₀ (F := F)) 𝒱₀ (c : Thread nD τ) none) Set.univ p Q

/-- The access the body makes to a slot. -/
abbrev slotA (f : Fin 4) (k : Fin 3) : View sig .tc .vmem S1x1x512x1024 .bf16 := sM.access (slotR f k)

theorem slot_set (f : Fin 4) (k : Fin 3) : (slotM f k).view.set = (slotA f k).set := View.set_reshape _ _

theorem slot_read (f : Fin 4) (k : Fin 3) (g : (slotA f k).ty.Contents (Elt F)) :
    (slotM f k).view.read (Elt F) g
      = shapeCast S512x1024 ((slotA f k).read (Elt F) g : FVec F S1x1x512x1024 .bf16) shapeCasts_S1x1x512x1024_S512x1024 := rfl

theorem slot_read_write (f : Fin 4) (k : Fin 3) (g : (slotA f k).ty.Contents (Elt F)) (v : FVec F S512x1024 .bf16) :
    (slotM f k).view.read (Elt F) ((slotA f k).write (Elt F) g
      (shapeCast S1x1x512x1024 v shapeCasts_S512x1024_S1x1x512x1024 : FVec F S1x1x512x1024 .bf16) Finset.univ) = v := by
  rw [slot_read, View.read_write_univ]
  funext x
  show v (Shape.reshapeEquiv _ (Shape.reshapeEquiv _ x)) = v x
  rw [Shape.reshapeEquiv_reshapeEquiv, Shape.reshapeEquiv_self]

/-- A slot is loaded: what is loaded, reshaped, is what the slot holds. -/
theorem wp_slot_load (c : Dev nD) (f : Fin 4) (k : Fin 3) (X : FVec F S512x1024 .bf16) {hl : sM.view.LoadsAt (slotR f k).toLoadRect}
    (K : ((slotR f k).toLoadRect.shape.Idx → Elt F .bf16) → Pr F α) (Q : α → sProp 𝕄) :
    slotHas c f k X ⊢ iprop((∀ a : FVec F S1x1x512x1024 .bf16, ⌜shapeCast S512x1024 a shapeCasts_S1x1x512x1024_S512x1024 = X⌝ -∗ slotHas c f k X -∗ WP c (K a) Q)
      -∗ WP c (.op (.load sM (slotR f k).toLoadRect hl) K) Q) := by
  unfold slotHas owns
  iintro ⟨%g, %hg, H⟩ Hk
  iapply (wp_load_rect 𝒱₀ (c : Thread nD τ) none Set.univ (m := sM) (r := slotR f k) (S := (slotM f k).view.set) (q := fullShare) (f := g)
    (by rw [slot_set])) $$ H
  iintro H
  ispecialize Hk $$ %((slotA f k).read (Elt F) g) %(hg ▸ (slot_read f k g).symm)
  iapply Hk
  iexists g
  isplitr
  · ipureintro; exact hg
  · iexact H

/-- A value is stored in a slot. -/
theorem wp_slot_store (c : Dev nD) (f : Fin 4) (k : Fin 3) (v : FVec F S512x1024 .bf16) (K : Pr F α) (Q : α → sProp 𝕄) :
    slotAny (c, f, k) ⊢ iprop((slotHas c f k v -∗ WP c K Q) -∗ WP c (pStore f k v K) Q) := by
  unfold slotAny slot slotHas owns
  iintro ⟨%g, H⟩ Hk
  iapply (wp_load_rect 𝒱₀ (c : Thread nD τ) none Set.univ (m := sM) (r := slotR f k) (S := (slotM f k).view.set) (q := fullShare) (f := g)
    (by rw [slot_set])) $$ H
  iintro H
  iapply (wp_store 𝒱₀ (c : Thread nD τ) none Set.univ (m := sM) (r := slotR f k) (S := (slotM f k).view.set) (f := g)
    (by rw [slot_set]; exact View.setOn_subset_set _ _)) $$ H
  iintro H
  iapply Hk
  iexists _
  isplitr
  · ipureintro; exact slot_read_write f k g v
  · iexact H

/-- A partial sum is added to a slot. -/
theorem wp_accum (c : Dev nD) (f : Fin 4) (k : Fin 3) (X : FVec F S512x1024 .bf16) (p : FVec F S512x1024 .f32) (K : Pr F α) (Q : α → sProp 𝕄) :
    slotHas c f k X ⊢ iprop((slotHas c f k (truncf .bf16 (addf (extf .f32 X bitsLt_bf16_f32) p) bitsLt_bf16_f32) -∗ WP c K Q)
      -∗ WP c (pAccum f k p K) Q) := by
  iintro H Hk
  iapply (wp_slot_load c f k X) $$ H
  iintro %a %ha H
  subst ha
  ihave H := (slotHas_any c f k _) $$ H
  iapply (wp_slot_store c f k) $$ H
  iexact Hk

/-! ## The result's columns -/

abbrev colM (f : Fin 4) : Memref sig .tc .vmem S512x1024 .f32 := oM.slice (colR f) (fun _ => rfl)
/-- Flow `f`'s columns of the result on device `c`, at any contents, -/
def colAny (c : Dev nD) (f : Fin 4) : sProp 𝕄 := iprop(∃ X : FVec F S512x1024 .f32, owns (c : Thread nD τ) (colM f) fullShare X)
/-- and at given contents. -/
def colHas (c : Dev nD) (f : Fin 4) (X : FVec F S512x1024 .f32) : sProp 𝕄 := owns (c : Thread nD τ) (colM f) fullShare X

/-- The last sum is stored in the result. -/
theorem wp_final (c : Dev nD) (f : Fin 4) (k : Fin 3) (X : FVec F S512x1024 .bf16) (p : FVec F S512x1024 .f32) (K : Pr F α) (Q : α → sProp 𝕄) :
    iprop(slotHas c f k X ∗ colAny c f) ⊢ iprop(((slotHas c f k X ∗ colHas c f (addf (extf .f32 X bitsLt_bf16_f32) p)) -∗ WP c K Q)
      -∗ WP c (pFinal f k p K) Q) := by
  unfold colAny colHas
  iintro ⟨H, %Y, Ho⟩ Hk
  iapply (wp_slot_load c f k X) $$ H
  iintro %a %ha H
  subst ha
  unfold owns
  icases Ho with ⟨%g, -, Ho⟩
  iapply (wp_load_rect 𝒱₀ (c : Thread nD τ) none Set.univ (m := oM) (r := colR f) (S := (colM f).view.set) (q := fullShare) (f := g)
    (Finset.Subset.refl _)) $$ Ho
  iintro Ho
  iapply (wp_store 𝒱₀ (c : Thread nD τ) none Set.univ (m := oM) (r := colR f) (S := (colM f).view.set) (f := g)
    (View.setOn_subset_set _ _)) $$ Ho
  iintro Ho
  iapply Hk
  isplitl [H]; · iexact H
  iexists ((oM.access (colR f)).write (Elt F) g
    (addf (extf .f32 (shapeCast S512x1024 a shapeCasts_S1x1x512x1024_S512x1024 : FVec F S512x1024 .bf16) bitsLt_bf16_f32) p) Finset.univ)
  isplitr
  · ipureintro; exact View.read_write_univ _ _
  · iexact Ho

/-! ## The arguments -/

/-- The two arguments as staged. -/
def xwPts (c : Dev nD) : sProp 𝕄 :=
  iprop(((c : Thread nD τ).loc cc0_stg0_0 ↦{fullShare} xv m c) ∗ ((c : Thread nD τ).loc cc0_stg1_0 ↦{fullShare} wv m c))

/-- One partial product. -/
theorem wp_part (c : Dev nD) (f : Fin 4) (r : Fin 32) (K : FVec F S512x1024 .f32 → Pr F α) (Q : α → sProp 𝕄) :
    xwPts m c ⊢ iprop((xwPts m c -∗ WP c (K (prod m c f r)) Q) -∗ WP c (pPart c f r K) Q) := by
  unfold xwPts
  iintro ⟨Hx, Hw⟩ Hk
  iapply (wp_load 𝒱₀ (c : Thread nD τ) none Set.univ (m := xM) (r := (rowR c r).toLoadRect) (q := fullShare) (f := xv m c)
    (Finset.subset_univ _)) $$ Hx
  iintro Hx
  iapply (wp_load 𝒱₀ (c : Thread nD τ) none Set.univ (m := wM) (r := (colR f).toLoadRect) (q := fullShare) (f := wv m c)
    (Finset.subset_univ _)) $$ Hw
  iintro Hw
  iapply Hk
  isplitl [Hx]
  · iexact Hx
  · iexact Hw

end Cert.RS

end
-- ==== Proof.Sync.lean ====
/-
# One wait, one signal, one transfer

The rules for the body's synchronisation, each at its cell of the protocol, from the records every device shares.
-/
module

public import proofs.«01_k».proof.Proof.Slots

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)

variable {F : FTy → Type} [FloatOps F]

local notation "𝕄" => MT nD τ sig ℕ (Elt F) ℕ UU ℕ

variable (m : (ℓ : Loc nD τ sig) → Buf (Elt F) ℓ)
variable {α : Type}

/-! ## The shared records -/

/-- A device's cells: its own semaphores and the barrier. -/
def csem (i : Fin 29) : SemLoc sig := if h : i.val < 28 then osem ⟨i.val, h⟩ else .reg barS
def kcell (p : Dev nD × Fin 29) : GSem nD τ sig := ((p.1 : Thread nD τ), csem p.2)

theorem csem_send : ∀ (f : Fin 4) (k : Fin 3), csem ⟨3 * f.val + k.val, by omega⟩ = .dma (sendS f k) := by decide
theorem csem_recv : ∀ (f : Fin 4) (k : Fin 3), csem ⟨12 + (3 * f.val + k.val), by omega⟩ = .dma (recvS f k) := by decide
theorem csem_cred : ∀ (f : Fin 4), csem ⟨24 + f.val, by omega⟩ = .reg (credS f) := by decide
theorem csem_bar : csem 28 = .reg barS := rfl

/-- What every device holds of the protocol: the levels, each cell's invariant and first round, each slot's invariant. -/
def recs : sProp 𝕄 :=
  iprop(levAts L lv
    ∗ bigSep Finset.univ (fun p : Dev nD × Fin 29 => iprop(∃ κ : ℕ, cellInv ER (Rd (F := F) m) κ (kcell p)))
    ∗ bigSep Finset.univ (fun p : Dev nD × Fin 29 => (reached ER (kcell p) 0 : sProp 𝕄))
    ∗ bigSep Finset.univ (fun q : Key => iprop(∃ ι : ℕ, slotInv ES ι q (slotAny (F := F) q))))

instance recs_persistent : BI.Persistent (recs (F := F) m) := by unfold recs; infer_instance

/-- A device may wait on a cell not above `n` while all it owes is above `n`. -/
theorem recs_mayWait {n : ℕ} {O : CellTallies nD τ sig ℕ} (hO : Above n O) (c : Dev nD) (sm : SemLoc sig) (i : ℕ) (hi : i < 16)
    (hl : lv ((c : Thread nD τ), sm) i ≤ n) : recs (F := F) m ⊢ MayWait (c : Thread nD τ) sm i O := by
  unfold recs; iintro ⟨H, -⟩
  iapply (mayWait hO c sm i hi hl); iexact H

theorem recs_cell (c : Dev nD) (i : Fin 29) {sm : SemLoc sig} (h : csem i = sm) :
    recs (F := F) m ⊢ iprop(∃ κ : ℕ, cellInv ER (Rd (F := F) m) κ ((c : Thread nD τ), sm)) := by
  subst h
  have h : bigSep Finset.univ (fun p : Dev nD × Fin 29 => iprop(∃ κ : ℕ, cellInv ER (Rd (F := F) m) κ (kcell p)))
      ⊢ iprop(∃ κ : ℕ, cellInv ER (Rd (F := F) m) κ (kcell (c, i))) := bigSep_elim (Finset.mem_univ (c, i))
  unfold recs; iintro ⟨-, H, -⟩
  iapply h; iexact H

theorem recs_reached (c : Dev nD) (i : Fin 29) {sm : SemLoc sig} (h : csem i = sm) :
    recs (F := F) m ⊢ (reached ER ((c : Thread nD τ), sm) 0 : sProp 𝕄) := by
  subst h
  have h : bigSep Finset.univ (fun p : Dev nD × Fin 29 => (reached ER (kcell p) 0 : sProp 𝕄)) ⊢ (reached ER (kcell (c, i)) 0 : sProp 𝕄) :=
    bigSep_elim (Finset.mem_univ (c, i))
  unfold recs; iintro ⟨-, -, H, -⟩
  iapply h; iexact H

theorem recs_slot (q : Key) : recs (F := F) m ⊢ iprop(∃ ι : ℕ, slotInv ES ι q (slotAny (F := F) q)) := by
  have h : bigSep Finset.univ (fun q : Key => iprop(∃ ι : ℕ, slotInv ES ι q (slotAny (F := F) q)))
      ⊢ iprop(∃ ι : ℕ, slotInv ES ι q (slotAny (F := F) q)) := bigSep_elim (Finset.mem_univ q)
  unfold recs; iintro ⟨-, -, -, H⟩
  iapply h; iexact H

section
variable (c : Dev nD) (f : Fin 4)
theorem recs_sc (t : ℕ) : recs (F := F) m ⊢ iprop(∃ κ : ℕ, cellInv ER (Rd (F := F) m) κ (sc c f t)) := recs_cell m c _ (csem_send f _)
theorem recs_rc (t : ℕ) : recs (F := F) m ⊢ iprop(∃ κ : ℕ, cellInv ER (Rd (F := F) m) κ (rc c f t)) := recs_cell m c _ (csem_recv f _)
theorem recs_cc : recs (F := F) m ⊢ iprop(∃ κ : ℕ, cellInv ER (Rd (F := F) m) κ (cc c f)) := recs_cell m c _ (csem_cred f)
theorem recs_bc : recs (F := F) m ⊢ iprop(∃ κ : ℕ, cellInv ER (Rd (F := F) m) κ (bc c)) := recs_cell m c _ csem_bar
theorem recs_sc0 (t : ℕ) : recs (F := F) m ⊢ (reached ER (sc c f t) 0 : sProp 𝕄) := recs_reached m c _ (csem_send f _)
theorem recs_rc0 (t : ℕ) : recs (F := F) m ⊢ (reached ER (rc c f t) 0 : sProp 𝕄) := recs_reached m c _ (csem_recv f _)
theorem recs_cc0 : recs (F := F) m ⊢ (reached ER (cc c f) 0 : sProp 𝕄) := recs_reached m c _ (csem_cred f)
theorem recs_bc0 : recs (F := F) m ⊢ (reached ER (bc c) 0 : sProp 𝕄) := recs_reached m c _ csem_bar
end

theorem credit_eq : ∀ (f : Fin 4) (k : Fin 3), (slotM f k).view.dmaCredit = N := fun f k => rfl

theorem waitDma_spec (c : Dev nD) (s : DmaSem sig) (f : Fin 4) (i j : Fin 3) (Kt : PUnit → sProp 𝕄) :
    wpE (defs₀ (F := F)) 𝒱₀ (c : Thread nD τ) none Set.univ (.waitDma2 s (slotM f i) (slotM f j) (slot_exact f i) (slot_exact f j)) Kt
      = waitSpec (c : Thread nD τ) Set.univ (.dma s) N Kt := by
  rw [wpE_waitDma2_eq, credit_eq]

/-- What a device owes, whatever it has waited for. -/
def debt (c : Dev nD) (O : CellTallies nD τ sig ℕ) : sProp 𝕄 := iprop(∃ W, owes (c : Thread nD τ) O W)

theorem bigSep_ins {I : Type} [DecidableEq I] {s : Finset I} {i : I} (hi : i ∉ s) (Φ : I → sProp 𝕄) :
    bigSep (insert i s) Φ ⊣⊢ iprop(Φ i ∗ bigSep s Φ) := by
  rw [bigSep_insert hi]; exact ⟨Entails.refl _, Entails.refl _⟩

theorem bigSep_join {I : Type} [DecidableEq I] {S T : Finset I} (h : T ⊆ S) {Φ : I → sProp 𝕄} :
    iprop(bigSep T Φ ∗ bigSep (S \ T) Φ) ⊢ bigSep S Φ := by
  conv_rhs => rw [← Finset.union_sdiff_of_subset h, bigSep_union Finset.disjoint_sdiff]
  exact Entails.refl _

theorem readies_succ (n : Dev nD) (f : Fin 4) (a : ℕ) : iprop(ready (F := F) n f a ∗ readies n f a) ⊢ readies n f (a + 1) := by
  unfold readies
  rw [Finset.range_add_one]
  exact (bigSep_ins Finset.notMem_range_self _).2

theorem readies_elim (n : Dev nD) (f : Fin 4) {r a : ℕ} (h : r < a) : readies (F := F) n f a ⊢ ready n f r :=
  bigSep_elim (Finset.mem_range.mpr h)

/-! ## The waits for transfers -/

theorem sl_add3 (t : ℕ) : sl (t + 3) = sl t := Fin.ext (Nat.add_mod_right t 3)
theorem div_add3 (t : ℕ) : (t + 3) / 3 = t / 3 + 1 := Nat.add_div_right t (by decide)

/-- The owner's position on its send cell before transfer `t` is waited for, -/
def posS (c : Dev nD) (f : Fin 4) (t : ℕ) : sProp 𝕄 := iprop(atPos ER (sc c f t) (t / 3) ∅ 0 ∗ reached ER (sc c f t) (t / 3))
/-- and on its receive cell. -/
def posR (c : Dev nD) (f : Fin 4) (t : ℕ) : sProp 𝕄 := iprop(atPos ER (rc c f t) (t / 3) ∅ 0 ∗ reached ER (rc c f t) (t / 3))

theorem wp_waitRecv (c : Dev nD) (f : Fin 4) (t : ℕ) (ht : t < 15) (i : Fin 3) {n : ℕ} {O : CellTallies nD τ sig ℕ} (hO : Above n O) (hn : 3 * t + 3 ≤ n)
    (K : Pr F α) (Q : α → sProp 𝕄) :
    iprop(recs m ∗ posR c f t ∗ cred (tallyAt (rc c f t) t N) ∗ debt c O)
      ⊢ iprop(((posR c f (t + 3) ∗ slotHas c f (sl t) (blk m t f (up f c)) ∗ debt c O) -∗ WP c K Q) -∗ WP c (pWaitRecv f i (sl t) K) Q) := by
  unfold posR debt
  iintro ⟨#HR, ⟨Hat, -⟩, Hc, ⟨%W, HO⟩⟩ Hk
  ihave HI := (recs_rc m c f t) $$ HR
  icases HI with ⟨%κ, #HI⟩
  iapply (Rounds.wp_wait_rest_token 𝒱₀ ER (Rd (F := F) m) (c : Thread nD τ) none (κ := κ) (sm := .dma (recvS f (sl t)))
      (waitDma_spec c (recvS f (sl t)) f i (sl t)) (Set.mem_univ _) t (O := O) (W := W) (R := t / 3) (m := 0) (T := ∅)
      (by rw [Nat.zero_add]; exact (expect_recv m c f t ht).symm)) $$ [Hc HO Hat]
  · isplitr; · iexact HI
    isplitl [Hc]; · iexact Hc
    isplitl [HO]; · iexact HO
    isplitr
    · iapply (recs_mayWait m hO c _ t (by omega) (by rw [lv_recv]; exact hn)); iexact HR
    iexact Hat
  iintro ⟨HO, Hat, Hr, Hpay⟩
  ihave Hpay := (Entails.of_eq (show bigSep ((Rd (F := F) m).duties (rc c f t) (t / 3) \ ∅) (fun d => (Rd (F := F) m).payload (rc c f t) (t / 3) d)
    = slotHas c f (sl t) (blk m t f (up f c)) from by rw [Finset.sdiff_empty, duties_recv m c f t ht, bigSep_singleton, payload_recv])) $$ Hpay
  iapply Hk
  isplitl [Hat Hr]
  · rw [show rc c f (t + 3) = rc c f t from by unfold rc; rw [sl_add3], div_add3]
    isplitl [Hat] <;> iassumption
  isplitl [Hpay]; · iexact Hpay
  iexists _; iexact HO

theorem wp_waitSend (c : Dev nD) (f : Fin 4) (t : ℕ) (ht : t < 15) (j : Fin 3) {O : CellTallies nD τ sig ℕ} (hO : Above 0 O)
    (K : Pr F α) (Q : α → sProp 𝕄) :
    iprop(recs m ∗ posS c f t ∗ cred (tallyAt (sc c f t) 0 N) ∗ debt c O)
      ⊢ iprop(((posS c f (t + 3) ∗ slotAny (c, f, sl (t + 2)) ∗ debt c O) -∗ WP c K Q) -∗ WP c (pWaitSend f (sl (t + 2)) j K) Q) := by
  unfold posS debt
  iintro ⟨#HR, ⟨Hat, -⟩, Hc, ⟨%W, HO⟩⟩ Hk
  ihave HI := (recs_sc m c f t) $$ HR
  icases HI with ⟨%κ, #HI⟩
  iapply (Rounds.wp_wait_rest_token 𝒱₀ ER (Rd (F := F) m) (c : Thread nD τ) none (κ := κ) (sm := .dma (sendS f (sl (t + 2))))
      (waitDma_spec c (sendS f (sl (t + 2))) f j (sl (t + 2))) (Set.mem_univ _) 0 (O := O) (W := W) (R := t / 3) (m := 0) (T := ∅)
      (by rw [Nat.zero_add]; exact (expect_send m c f t ht).symm)) $$ [Hc HO Hat]
  · isplitr; · iexact HI
    isplitl [Hc]; · iexact Hc
    isplitl [HO]; · iexact HO
    isplitr
    · iapply (recs_mayWait m hO c _ 0 (by omega) (by rw [lv_send])); iexact HR
    iexact Hat
  iintro ⟨HO, Hat, Hr, Hpay⟩
  ihave Hpay := (Entails.of_eq (show bigSep ((Rd (F := F) m).duties (sc c f t) (t / 3) \ ∅) (fun d => (Rd (F := F) m).payload (sc c f t) (t / 3) d)
    = slotAny (c, f, sl (t + 2)) from by rw [Finset.sdiff_empty, duties_send m c f t ht, bigSep_singleton, payload_send])) $$ Hpay
  iapply Hk
  isplitl [Hat Hr]
  · rw [show sc c f (t + 3) = sc c f t from by unfold sc; rw [show t + 3 + 2 = t + 2 + 3 from rfl, sl_add3], div_add3]
    isplitl [Hat] <;> iassumption
  isplitl [Hpay]; · iexact Hpay
  iexists _; iexact HO

/-! ## Credits -/

theorem slotAny_false (q : Key) : iprop(slotAny (F := F) q ∗ slotAny q) ⊢ (False : sProp 𝕄) :=
  Release.slot_slot_false (View.set_nonempty (by decide))

/-- The slot transfer `s + 2` lands in, in its owner's count. -/
def rd (c : Dev nD) (f : Fin 4) (s : ℕ) : sProp 𝕄 := readerAt ES ((c, f, sl (s + 2)) : Key) ((s + 2) / 3)
/-- The duty of credit `r`. -/
def ctok (c : Dev nD) (f : Fin 4) (r : ℕ) : sProp 𝕄 := dutyTok ER (cc (up f c) f) 0 r

/-- A credit is given: the slot of transfer `s + 2` is free. -/
theorem wp_credit (c : Dev nD) (f : Fin 4) (s : ℕ) (hs : s < 13) {O : CellTallies nD τ sig ℕ} (O' : CellTallies nD τ sig ℕ)
    (hO : O = O' + tallyAt (cc (up f c) f) s 1) (K : Pr F α) (Q : α → sProp 𝕄) :
    iprop(recs m ∗ readies c f s ∗ slotAny (c, f, sl (s + 2)) ∗ rd c f s ∗ reached ER (rc c f (s + 2)) ((s + 2) / 3) ∗ ctok c f s ∗ debt c O)
      ⊢ iprop(((readies c f (s + 1) ∗ rd c f (s + 3) ∗ debt c O') -∗ WP c K Q) -∗ WP c (pSignal (upK f c) (credS f) K) Q) := by
  rw [upK_eq]
  unfold debt rd ctok
  iintro ⟨#HR, #Hre, Hs, Hrd, #Hrc, Ht, ⟨%W, HO⟩⟩ Hk
  ihave HI := (recs_cc m (up f c) f) $$ HR
  icases HI with ⟨%κ, #HI⟩
  ihave HJ := (recs_slot m (c, f, sl (s + 2))) $$ HR
  icases HJ with ⟨%ι, #HJ⟩
  ihave #Hr0 := (recs_cc0 m (up f c) f) $$ HR
  imod (Release.slot_release ES (Set.mem_univ ι) (slotAny_false (c, f, sl (s + 2))) ((s + 2) / 3)) $$ [Hrd Hs] with ⟨Hrd, #Hrel⟩
  · isplitr; · iexact HJ
    isplitl [Hrd] <;> iassumption
  ihave #Hre' : readies (F := F) c f (s + 1) $$ []
  · iapply (readies_succ c f s)
    isplitl []
    · unfold ready; isplitr <;> iassumption
    · iexact Hre
  iapply (Rounds.wp_signal 𝒱₀ ER (Rd (F := F) m) (c : Thread nD τ) none (dst := (up f c : Thread nD τ)) (κ := κ) (sem := credS f) (r := 0)
      (d := s) (by rw [duties_cred]; exact Finset.mem_range.mpr hs) ((amount_cred m (up f c) f 0 s).trans (by decide)) s O' hO (W := W))
    $$ [HO Ht]
  · isplitr; · iexact HI
    isplitl [HO]; · iexact HO
    isplitl [Ht]; · iexact Ht
    isplitr
    · rw [payload_cred, tgt_up]; iexact Hre'
    iexact Hr0
  iintro HO
  iapply Hk
  isplitr; · iexact Hre'
  isplitl [Hrd]
  · rw [show s + 3 + 2 = s + 2 + 3 from rfl, sl_add3, div_add3]; iexact Hrd
  iexists W; iexact HO

/-- The owner's position on its credit cell after `j` credits. -/
def cpos (c : Dev nD) (f : Fin 4) (j : ℕ) : sProp 𝕄 :=
  iprop(∃ T : Finset ℕ, ⌜T ⊆ Finset.range 13 ∧ j ≤ T.card⌝ ∗ atPos ER (cc c f) 0 T j ∗ bigSep T (fun d => readies (F := F) (tgt f c) f (d + 1)))

/-- A set of at least `j + 1` numbers has one that is `j` or more. -/
theorem exists_ge_of_card {S : Finset ℕ} {j : ℕ} (h : j < S.card) : ∃ d ∈ S, j ≤ d := by
  by_contra hc
  push Not at hc
  have := Finset.card_le_card (fun d hd => Finset.mem_range.mpr (hc d hd) : S ⊆ Finset.range j)
  rw [Finset.card_range] at this; omega

/-- A credit is waited for: the `(j + 1)`-st says the target is ready for transfer `j + 2`. -/
theorem wp_waitCredit (c : Dev nD) (f : Fin 4) (j : ℕ) (hj : j < 13) {n : ℕ} {O : CellTallies nD τ sig ℕ} (hO : Above n O) (hn : 3 * j + 4 ≤ n)
    (K : Pr F α) (Q : α → sProp 𝕄) :
    iprop(recs m ∗ cpos c f j ∗ cred (tallyAt (cc c f) j 1) ∗ debt c O)
      ⊢ iprop(((cpos c f (j + 1) ∗ ready (tgt f c) f j ∗ debt c O) -∗ WP c K Q) -∗ WP c (pWait (credS f) 1#32 K) Q) := by
  unfold debt cpos
  iintro ⟨#HR, ⟨%T, %hT, Hat, #HT⟩, Hc, ⟨%W, HO⟩⟩ Hk
  ihave HI := (recs_cc m c f) $$ HR
  icases HI with ⟨%κ, #HI⟩
  iapply (Rounds.wp_wait 𝒱₀ ER (Rd (F := F) m) (c : Thread nD τ) none (κ := κ) (sm := .reg (credS f))
      (wpE_semWait_eq 𝒱₀ (c : Thread nD τ) none Set.univ) (Set.mem_univ _) (cr := Finsupp.single j 1) (O := O) (W := W)
      {((.reg (credS f) : SemLoc sig), j)} (R := 0) (m := j) (T := T)
      (by rw [Util.total_single]; decide) (image_single_subset _ j 1)) $$ [Hc HO Hat]
  · isplitr; · iexact HI
    isplitl [Hc]; · iexact Hc
    isplitl [HO]; · iexact HO
    isplitr
    · iapply (recs_mayWait m hO c _ j (by omega) (by rw [lv_cred]; exact hn)); iexact HR
    iexact Hat
  iintro %S ⟨%hS, HO, Hat, Hpay⟩
  obtain ⟨hTS, hSD, hcard⟩ := hS
  rw [duties_cred] at hSD
  rw [expect_cred, duties_cred, Finset.card_sdiff_of_subset hSD, Finset.card_range] at hcard
  have hle := Finset.card_le_card hSD
  rw [Finset.card_range] at hle
  have h1 : (1#32 : BitVec 32).toNat = 1 := rfl
  have hS1 : j < S.card := by omega
  obtain ⟨d, hd, hjd⟩ := exists_ge_of_card hS1
  have hpay : bigSep (S \ T) (fun d => (Rd (F := F) m).payload (cc c f) 0 d) = bigSep (S \ T) (fun d => readies (F := F) (tgt f c) f (d + 1)) :=
    bigSep_congr fun d _ => payload_cred m c f 0 d
  ihave #Hnew := (Entails.of_eq hpay) $$ Hpay
  ihave #HS : bigSep S (fun d => readies (F := F) (tgt f c) f (d + 1)) $$ []
  · iapply (bigSep_join hTS)
    isplitl [] <;> iassumption
  ihave #Hd : readies (F := F) (tgt f c) f (d + 1) $$ []
  · have h : bigSep S (fun d => readies (F := F) (tgt f c) f (d + 1)) ⊢ readies (F := F) (tgt f c) f (d + 1) := bigSep_elim hd
    iapply h; iexact HS
  iapply Hk
  isplitl [Hat]
  · iexists S
    isplitr
    · ipureintro; exact ⟨hSD, hS1⟩
    isplitl [Hat]; · iexact Hat
    iexact HS
  isplitr
  · iapply (readies_elim (tgt f c) f (show j < d + 1 by omega)); iexact Hd
  iexists _; iexact HO

/-! ## Transfers -/

/-- What transfer `t` is paid with: its two duties and its write of the target's slot. -/
def toks (c : Dev nD) (f : Fin 4) (t : ℕ) : sProp 𝕄 :=
  iprop(dutyTok ER (sc c f t) (t / 3) 0 ∗ dutyTok ER (rc (tgt f c) f t) (t / 3) 0 ∗ writeTok ES ((tgt f c, f, sl t) : Key) (t / 3 + 1))

/-- Transfer `t` starts: the target's slot is free for it. -/
theorem wp_transfer (c : Dev nD) (f : Fin 4) (t : ℕ) (ht : t < 15) (i : Fin 3) (hi : i = sl (t + 2))
    {O : CellTallies nD τ sig ℕ} (O' : CellTallies nD τ sig ℕ) (hO : O = O' + tallyAt (rc (tgt f c) f t) t N) (K : Pr F α) (Q : α → sProp 𝕄) :
    iprop(recs m ∗ slotHas c f i (blk m t f c) ∗ released ES ((tgt f c, f, sl t) : Key) (t / 3 + 1) ∗ reached ER (rc (tgt f c) f t) (t / 3)
        ∗ reached ER (sc c f t) (t / 3) ∗ toks c f t ∗ debt c O)
      ⊢ iprop(((cred (tallyAt (sc c f t) 0 N) ∗ debt c O') -∗ WP c K Q) -∗ WP c (pSend (tgtK f c) f i (sl t) K) Q) := by
  subst hi
  rw [tgtK_eq]
  unfold debt toks
  iintro ⟨#HR, Hs, #Hrel, #Hr2, #Hr1, ⟨Ht1, Ht2, Hw⟩, ⟨%W, HO⟩⟩ Hk
  ihave HI := (recs_sc m c f t) $$ HR
  icases HI with ⟨%κ₁, #HI1⟩
  ihave HI := (recs_rc m (tgt f c) f t) $$ HR
  icases HI with ⟨%κ₂, #HI2⟩
  ihave HJ := (recs_slot m (tgt f c, f, sl t)) $$ HR
  icases HJ with ⟨%ι, #HJ⟩
  imod (Release.slot_take ES (Set.mem_univ ι) (t / 3 + 1)) $$ [Hw] with Hd
  · isplitr; · iexact HJ
    isplitr; · iexact Hrel
    iexact Hw
  unfold slotHas owns
  icases Hs with ⟨%g, %hg, Hs⟩
  unfold slotAny slot
  icases Hd with ⟨%fd, Hd⟩
  iapply (Rounds.wp_send_pointsTo 𝒱₀ ER (Rd (F := F) m) (c : Thread nD τ) none (κ₁ := κ₁) (κ₂ := κ₂) (c' := (tgt f c : Thread nD τ))
    (src := slotM f (sl (t + 2))) (dst := slotM f (sl t)) (sS := .dma (sendS f (sl (t + 2)))) (sem := .dma (recvS f (sl t)))
    (r₁ := t / 3) (r₂ := t / 3) (d₁ := 0) (d₂ := 0) (q := fullShare) (fs := g) (fd := fd)
    (by rw [duties_send m c f t ht]; exact Finset.mem_singleton_self _) (by rw [duties_recv m (tgt f c) f t ht]; exact Finset.mem_singleton_self _)
    t 0 N (credit_eq f (sl t)) (amount_send m c f t _ _) (amount_recv m (tgt f c) f t _ _) O' hO (W := W)
    (by rw [payload_send]; unfold slotAny slot; iintro H; iexists g; iexact H)
    (by
      rw [payload_recv, up_tgt]; unfold slotHas owns
      iintro H; iexists _; isplitr
      swap; · iexact H
      ipureintro; rw [View.read_write_univ]; exact hg)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## The barrier -/

/-- A unit of a neighbour's barrier: `n` is the neighbour, `d` this device's duty there. -/
theorem wp_barSignal (c n n' : Dev nD) (hn : n = n') (d : ℕ) (hd : d ∈ ({0, 1} : Finset ℕ)) {O : CellTallies nD τ sig ℕ} (O' : CellTallies nD τ sig ℕ)
    (hO : O = O' + tallyAt (bc n') 0 1) (K : Pr F α) (Q : α → sProp 𝕄) :
    iprop(recs m ∗ barPay n' d ∗ dutyTok ER (bc n') 0 d ∗ debt c O)
      ⊢ iprop((debt c O' -∗ WP c K Q) -∗ WP c (pSignal n barS K) Q) := by
  subst hn
  unfold debt
  iintro ⟨#HR, #Hp, Ht, ⟨%W, HO⟩⟩ Hk
  ihave HI := (recs_bc m n) $$ HR
  icases HI with ⟨%κ, #HI⟩
  ihave #Hr0 := (recs_bc0 m n) $$ HR
  iapply (Rounds.wp_signal 𝒱₀ ER (Rd (F := F) m) (c : Thread nD τ) none (dst := (n : Thread nD τ)) (κ := κ) (sem := barS) (r := 0)
      (d := d) (by rw [duties_bar]; exact hd) ((amount_bar m n 0 d).trans (by decide)) 0 O' hO (W := W))
    $$ [HO Ht]
  · isplitr; · iexact HI
    isplitl [HO]; · iexact HO
    isplitl [Ht]; · iexact Ht
    isplitr
    · rw [payload_bar]; iexact Hp
    iexact Hr0
  iintro HO
  iapply Hk
  iexists W; iexact HO

/-- The wait for both neighbours: slots 0 and 1 of every flow's target are free. -/
theorem wp_barWait (c : Dev nD) {O : CellTallies nD τ sig ℕ} (hO : Above 1 O) (K : Pr F α) (Q : α → sProp 𝕄) :
    iprop(recs m ∗ atPos ER (bc c) 0 ∅ 0 ∗ cred (tallyAt (bc c) 0 2) ∗ debt c O)
      ⊢ iprop(((atPos ER (bc c) 1 ∅ 0 ∗ barPay c 0 ∗ barPay c 1 ∗ debt c O) -∗ WP c K Q) -∗ WP c (pWait barS 2#32 K) Q) := by
  unfold debt
  iintro ⟨#HR, Hat, Hc, ⟨%W, HO⟩⟩ Hk
  ihave HI := (recs_bc m c) $$ HR
  icases HI with ⟨%κ, #HI⟩
  iapply (Rounds.wp_wait_rest_token 𝒱₀ ER (Rd (F := F) m) (c : Thread nD τ) none (κ := κ) (sm := .reg barS)
      (wpE_semWait_eq 𝒱₀ (c : Thread nD τ) none Set.univ) (Set.mem_univ _) 0 (O := O) (W := W) (R := 0) (m := 0) (T := ∅)
      (by rw [expect_bar]; decide)) $$ [Hc HO Hat]
  · isplitr; · iexact HI
    isplitl [Hc]; · iexact Hc
    isplitl [HO]; · iexact HO
    isplitr
    · iapply (recs_mayWait m hO c _ 0 (by omega) (by rw [lv_bar])); iexact HR
    iexact Hat
  iintro ⟨HO, Hat, -, Hpay⟩
  ihave Hpay := (Entails.of_eq (show bigSep ((Rd (F := F) m).duties (bc c) 0 \ ∅) (fun d => (Rd (F := F) m).payload (bc c) 0 d)
    = bigSep {0, 1} (fun d => barPay (F := F) c d) from by
      rw [Finset.sdiff_empty, duties_bar]; exact bigSep_congr fun d _ => payload_bar m c 0 d)) $$ Hpay
  ihave Hpay := (bigSep_ins (by decide) _).1 $$ Hpay
  icases Hpay with ⟨H0, H1⟩
  ihave H1 := (Entails.of_eq bigSep_singleton) $$ H1
  iapply Hk
  isplitl [Hat]; · iexact Hat
  isplitl [H0]; · iexact H0
  isplitl [H1]; · iexact H1
  iexists _; iexact HO

end Cert.RS

end
-- ==== Proof.Flow.lean ====
/-
# One step of one flow

What a device holds of a flow before step `s`, and the rules that take a flow from one step to the next.
-/
module

public import proofs.«01_k».proof.Proof.Sync

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)

variable {F : FTy → Type} [FloatOps F]

local notation "𝕄" => MT nD τ sig ℕ (Elt F) ℕ UU ℕ

variable (m : (ℓ : Loc nD τ sig) → Buf (Elt F) ℓ)
variable {α : Type}

theorem bigSep_Ico {a n : ℕ} (h : a < n) (Φ : ℕ → sProp 𝕄) : bigSep (Finset.Ico a n) Φ ⊣⊢ iprop(Φ a ∗ bigSep (Finset.Ico (a + 1) n) Φ) := by
  rw [Ico_step h]; exact bigSep_ins (not_mem_Ico a n) Φ

/-- The units of receive `t` and of credit `r`, to be waited for. -/
abbrev rcred (c : Dev nD) (f : Fin 4) (t : ℕ) : sProp 𝕄 := cred (tallyAt (rc c f t) t N)
abbrev ccred (c : Dev nD) (f : Fin 4) (r : ℕ) : sProp 𝕄 := cred (tallyAt (cc c f) r 1)
/-- The units of transfer `t` just started. -/
abbrev scred (c : Dev nD) (f : Fin 4) (t : ℕ) : sProp 𝕄 := cred (tallyAt (sc c f t) 0 N)

/-- The positions on the send and the receive cells before step `s`. -/
def poss (c : Dev nD) (f : Fin 4) (s : ℕ) : sProp 𝕄 :=
  iprop((posS c f s ∗ posR c f s) ∗ (posS c f (s + 1) ∗ posR c f (s + 1)) ∗ (posS c f (s + 2) ∗ posR c f (s + 2)))

theorem poss_succ (c : Dev nD) (f : Fin 4) (s : ℕ) :
    poss (F := F) c f s ⊢ iprop(posS c f s ∗ posR c f s ∗ reached ER (sc c f (s + 1)) ((s + 1) / 3) ∗ reached ER (rc c f (s + 2)) ((s + 2) / 3)
      ∗ ((posS c f (s + 3) ∗ posR c f (s + 3)) -∗ poss c f (s + 1))) := by
  unfold poss
  iintro ⟨⟨HS, HR⟩, ⟨HS1, HR1⟩, HS2, HR2⟩
  unfold posS posR
  icases HS1 with ⟨HS1, #h1⟩
  icases HR2 with ⟨HR2, #h2⟩
  isplitl [HS]; · iexact HS
  isplitl [HR]; · iexact HR
  isplitr; · iexact h1
  isplitr; · iexact h2
  iintro ⟨HS3, HR3⟩
  isplitl [HS1 HR1]
  · isplitr [HR1]
    · isplitl [HS1]; · iexact HS1
      iexact h1
    · iexact HR1
  isplitl [HS2 HR2]
  · isplitl [HS2]; · iexact HS2
    isplitl [HR2]; · iexact HR2
    iexact h2
  isplitl [HS3]; · iexact HS3
  iexact HR3

/-- A flow before step `s ≤ 13`: transfer `s` is on its way out, transfer `s` is on its way in. -/
def flowM (c : Dev nD) (f : Fin 4) (s : ℕ) : sProp 𝕄 :=
  iprop(poss c f s ∗ bigSep (Finset.Ico (s + 1) 15) (toks (F := F) c f) ∗ bigSep (Finset.Ico s 13) (ctok (F := F) c f)
    ∗ bigSep (Finset.Ico s 15) (rcred (F := F) c f) ∗ bigSep (Finset.Ico (s - 1) 13) (ccred (F := F) c f)
    ∗ scred c f s ∗ cpos c f (s - 1) ∗ (rd c f s ∗ rd c f (s + 1) ∗ rd c f (s + 2)) ∗ readies c f s ∗ relPay (tgt f c) f ∗ colAny c f)
/-- Before step 14, -/
def flowL (c : Dev nD) (f : Fin 4) : sProp 𝕄 :=
  iprop(poss c f 14 ∗ rcred c f 14 ∗ scred c f 14 ∗ cpos c f 13 ∗ slotAny (c, f, sl 15) ∗ colAny c f)
/-- and after it. -/
def flowE (c : Dev nD) (f : Fin 4) : sProp 𝕄 :=
  iprop(poss c f 15 ∗ cpos c f 13 ∗ (slotAny (c, f, sl 15) ∗ slotAny (c, f, sl 16) ∗ slotAny (c, f, sl 14)) ∗ colHas c f (outv m f c))

/-- What a flow owes before step `s`. -/
def owed (c : Dev nD) (f : Fin 4) (s : ℕ) : CellTallies nD τ sig ℕ := OR c f (s + 1) + OC c f s

theorem add_mid {M : Type} [AddCommMonoid M] (x y t z : M) : x + (y + t + z) = x + (y + z) + t := by
  rw [add_right_comm y t z, ← add_assoc]

theorem above_owed {c : Dev nD} {f : Fin 4} {s n : ℕ} (h : n ≤ 3 * s + 3) : Above n (owed c f s) :=
  (above_OR (by omega)).add (above_OC (by omega))

section
variable (c : Dev nD) (f : Fin 4) {Orest : CellTallies nD τ sig ℕ}

/-- The head of every step: the product, the receive, the sum, the end of the last transfer out. -/
theorem wp_head (s : ℕ) (hs : s < 15) (hO : Above (3 * s + 3) Orest) (K : Pr F α) (Q : α → sProp 𝕄) :
    iprop(recs m ∗ xwPts m c ∗ posS c f s ∗ posR c f s ∗ rcred c f s ∗ scred c f s ∗ debt c (Orest + owed c f s))
      ⊢ iprop(((xwPts m c ∗ (posS c f (s + 3) ∗ posR c f (s + 3)) ∗ slotHas c f (sl s) (blk m (s + 1) f c) ∗ slotAny (c, f, sl (s + 2))
            ∗ debt c (Orest + owed c f s)) -∗ WP c K Q)
        -∗ WP c (pPart c f (rIx f (s + 2)) fun p => pWaitRecv f (sl (s + 2)) (sl s) <| pAccum f (sl s) p <| pWaitSend f (sl (s + 2)) (sl s) K) Q) := by
  have hA : Above (3 * s + 3) (Orest + owed c f s) := hO.add (above_owed (Nat.le_refl _))
  have hA0 : Above 0 (Orest + owed c f s) := fun g i h => ⟨(hA g i h).1, by have := (hA g i h).2; omega⟩
  iintro ⟨#HR, Hx, HS, HV, Hrc, Hsc, HO⟩ Hk
  iapply (wp_part m c f (rIx f (s + 2))) $$ Hx
  iintro Hx
  iapply (wp_waitRecv m c f s hs (sl (s + 2)) hA (Nat.le_refl _)) $$ [HV Hrc HO]
  · isplitr; · iexact HR
    isplitl [HV]; · iexact HV
    isplitl [Hrc] <;> iassumption
  iintro ⟨HV, Hs, HO⟩
  iapply (wp_accum c f (sl s)) $$ Hs
  iintro Hs
  iapply (wp_waitSend m c f s hs (sl s) hA0) $$ [HS Hsc HO]
  · isplitr; · iexact HR
    isplitl [HS]; · iexact HS
    isplitl [Hsc] <;> iassumption
  iintro ⟨HS, Hs', HO⟩
  iapply Hk
  isplitl [Hx]; · iexact Hx
  isplitl [HS HV]
  · isplitl [HS] <;> iassumption
  isplitl [Hs]; · iexact Hs
  isplitl [Hs'] <;> iassumption

theorem wp_stepM (j : ℕ) (hj : j < 12) (hO : Above (3 * (j + 1) + 3) Orest) (K : Pr F α) (Q : α → sProp 𝕄) :
    iprop(recs m ∗ xwPts m c ∗ flowM c f (j + 1) ∗ debt c (Orest + owed c f (j + 1)))
      ⊢ iprop(((xwPts m c ∗ flowM c f (j + 2) ∗ debt c (Orest + owed c f (j + 2))) -∗ WP c K Q)
        -∗ WP c (stepM c f (j + 1) (rIx f (j + 1 + 2)) K) Q) := by
  unfold flowM
  iintro ⟨#HR, Hx, ⟨Hp, Ht, Hct, Hrc, Hcc, Hsc, Hcp, ⟨Hrd, Hrd1, Hrd2⟩, Hre, #Hrel, Hcol⟩, HO⟩ Hk
  ihave Hp := (poss_succ c f (j + 1)) $$ Hp
  icases Hp with ⟨HS, HV, #Hr1, #Hr2, Hp⟩
  ihave Hrc := (bigSep_Ico (show j + 1 < 15 by omega) _).1 $$ Hrc
  icases Hrc with ⟨Hrc, Hrcs⟩
  ihave Ht := (bigSep_Ico (show j + 1 + 1 < 15 by omega) _).1 $$ Ht
  icases Ht with ⟨Ht, Hts⟩
  ihave Hct := (bigSep_Ico (show j + 1 < 13 by omega) _).1 $$ Hct
  icases Hct with ⟨Hct, Hcts⟩
  ihave Hcc := (bigSep_Ico (show j + 1 - 1 < 13 by omega) _).1 $$ Hcc
  icases Hcc with ⟨Hcc, Hccs⟩
  iapply (wp_head m c f (j + 1) (by omega) hO) $$ [Hx HS HV Hrc Hsc HO]
  · isplitr; · iexact HR
    isplitl [Hx]; · iexact Hx
    isplitl [HS]; · iexact HS
    isplitl [HV]; · iexact HV
    isplitl [Hrc]; · iexact Hrc
    isplitl [Hsc] <;> iassumption
  iintro ⟨Hx, HP, Hs, Hs', HO⟩
  iapply (wp_credit m c f (j + 1) (by omega) (O := Orest + owed c f (j + 1)) (Orest + (OR c f (j + 2) + OC c f (j + 2)))
    (by unfold owed; rw [OC_step c f (j + 1) (by omega)]; simp only [add_assoc])) $$ [Hre Hs' Hrd Hct HO]
  · isplitr; · iexact HR
    isplitl [Hre]; · iexact Hre
    isplitl [Hs']; · iexact Hs'
    isplitl [Hrd]; · iexact Hrd
    isplitr; · iexact Hr2
    isplitl [Hct] <;> iassumption
  iintro ⟨Hre, Hrd, HO⟩
  iapply (wp_waitCredit m c f j (by omega) (n := 3 * (j + 1) + 3) (O := Orest + (OR c f (j + 2) + OC c f (j + 2)))
    (hO.add ((above_OR (by omega)).add (above_OC (by omega)))) (by omega)) $$ [Hcp Hcc HO]
  · isplitr; · iexact HR
    isplitl [Hcp]; · iexact Hcp
    isplitl [Hcc]; · iexact Hcc
    iexact HO
  iintro ⟨Hcp, #Hrdy, HO⟩
  unfold ready
  icases Hrdy with ⟨#Hrl, #Hrch⟩
  iapply (wp_transfer m c f (j + 2) (by omega) (sl (j + 1)) (sl_add3 (j + 1)).symm (O := Orest + (OR c f (j + 2) + OC c f (j + 2))) (Orest + owed c f (j + 2))
    (by unfold owed; rw [OR_step c f (j + 2) (by omega)]; exact add_mid _ _ _ _)) $$ [Hs Ht HO]
  · isplitr; · iexact HR
    isplitl [Hs]; · iexact Hs
    isplitr; · iexact Hrl
    isplitr; · iexact Hrch
    isplitr; · iexact Hr1
    isplitl [Ht] <;> iassumption
  iintro ⟨Hsc, HO⟩
  iapply Hk
  isplitl [Hx]; · iexact Hx
  isplitr [HO]
  swap; · iexact HO
  isplitl [Hp HP]
  · iapply Hp; iexact HP
  isplitl [Hts]; · iexact Hts
  isplitl [Hcts]; · iexact Hcts
  isplitl [Hrcs]; · iexact Hrcs
  isplitl [Hccs]; · iexact Hccs
  isplitl [Hsc]; · iexact Hsc
  isplitl [Hcp]; · iexact Hcp
  isplitl [Hrd Hrd1 Hrd2]
  · isplitl [Hrd1]; · iexact Hrd1
    isplitl [Hrd2] <;> iassumption
  isplitl [Hre]; · iexact Hre
  isplitr; · iexact Hrel
  iexact Hcol

theorem wp_stepZ (hO : Above 3 Orest) (K : Pr F α) (Q : α → sProp 𝕄) :
    iprop(recs m ∗ xwPts m c ∗ flowM c f 0 ∗ debt c (Orest + owed c f 0))
      ⊢ iprop(((xwPts m c ∗ flowM c f 1 ∗ debt c (Orest + owed c f 1)) -∗ WP c K Q)
        -∗ WP c (stepZ c f 0 (rIx f 2) K) Q) := by
  unfold flowM
  iintro ⟨#HR, Hx, ⟨Hp, Ht, Hct, Hrc, Hcc, Hsc, Hcp, ⟨Hrd, Hrd1, Hrd2⟩, Hre, #Hrel, Hcol⟩, HO⟩ Hk
  ihave Hp := (poss_succ c f 0) $$ Hp
  icases Hp with ⟨HS, HV, #Hr1, #Hr2, Hp⟩
  ihave Hrc := (bigSep_Ico (show 0 < 15 by omega) _).1 $$ Hrc
  icases Hrc with ⟨Hrc, Hrcs⟩
  ihave Ht := (bigSep_Ico (show 0 + 1 < 15 by omega) _).1 $$ Ht
  icases Ht with ⟨Ht, Hts⟩
  ihave Hct := (bigSep_Ico (show 0 < 13 by omega) _).1 $$ Hct
  icases Hct with ⟨Hct, Hcts⟩
  iapply (wp_head m c f 0 (by omega) hO) $$ [Hx HS HV Hrc Hsc HO]
  · isplitr; · iexact HR
    isplitl [Hx]; · iexact Hx
    isplitl [HS]; · iexact HS
    isplitl [HV]; · iexact HV
    isplitl [Hrc]; · iexact Hrc
    isplitl [Hsc] <;> iassumption
  iintro ⟨Hx, HP, Hs, Hs', HO⟩
  iapply (wp_credit m c f 0 (by omega) (O := Orest + owed c f 0) (Orest + (OR c f 1 + OC c f 1))
    (by unfold owed; rw [OC_step c f 0 (by omega)]; simp only [add_assoc])) $$ [Hre Hs' Hrd Hct HO]
  · isplitr; · iexact HR
    isplitl [Hre]; · iexact Hre
    isplitl [Hs']; · iexact Hs'
    isplitl [Hrd]; · iexact Hrd
    isplitr; · iexact Hr2
    isplitl [Hct] <;> iassumption
  iintro ⟨Hre, Hrd, HO⟩
  ihave #Hrch := (recs_rc0 m (tgt f c) f 1) $$ HR
  ihave #Hrel1 : released ES ((tgt f c, f, sl 1) : Key) 1 $$ []
  · unfold relPay; icases Hrel with ⟨-, H⟩; iexact H
  iapply (wp_transfer m c f 1 (by omega) (sl 0) (sl_add3 0).symm (O := Orest + (OR c f 1 + OC c f 1)) (Orest + owed c f 1)
    (by unfold owed; rw [OR_step c f 1 (by omega)]; exact add_mid _ _ _ _)) $$ [Hs Ht HO]
  · isplitr; · iexact HR
    isplitl [Hs]; · iexact Hs
    isplitr; · iexact Hrel1
    isplitr; · iexact Hrch
    isplitr; · iexact Hr1
    isplitl [Ht] <;> iassumption
  iintro ⟨Hsc, HO⟩
  iapply Hk
  isplitl [Hx]; · iexact Hx
  isplitr [HO]
  swap; · iexact HO
  isplitl [Hp HP]
  · iapply Hp; iexact HP
  isplitl [Hts]; · iexact Hts
  isplitl [Hcts]; · iexact Hcts
  isplitl [Hrcs]; · iexact Hrcs
  isplitl [Hcc]; · iexact Hcc
  isplitl [Hsc]; · iexact Hsc
  isplitl [Hcp]; · iexact Hcp
  isplitl [Hrd Hrd1 Hrd2]
  · isplitl [Hrd1]; · iexact Hrd1
    isplitl [Hrd2] <;> iassumption
  isplitl [Hre]; · iexact Hre
  isplitr; · iexact Hrel
  iexact Hcol

theorem wp_stepL (hO : Above 42 Orest) (K : Pr F α) (Q : α → sProp 𝕄) :
    iprop(recs m ∗ xwPts m c ∗ flowM c f 13 ∗ debt c (Orest + owed c f 13))
      ⊢ iprop(((xwPts m c ∗ flowL c f ∗ debt c (Orest + owed c f 14)) -∗ WP c K Q)
        -∗ WP c (stepL c f 13 (rIx f 15) K) Q) := by
  unfold flowM flowL
  iintro ⟨#HR, Hx, ⟨Hp, Ht, -, Hrc, Hcc, Hsc, Hcp, -, -, #Hrel, Hcol⟩, HO⟩ Hk
  ihave Hp := (poss_succ c f 13) $$ Hp
  icases Hp with ⟨HS, HV, #Hr1, #Hr2, Hp⟩
  ihave Hrc := (bigSep_Ico (show 13 < 15 by omega) _).1 $$ Hrc
  icases Hrc with ⟨Hrc, Hrcs⟩
  ihave Hrcs := (bigSep_Ico (show 14 < 15 by omega) _).1 $$ Hrcs
  icases Hrcs with ⟨Hrc1, -⟩
  ihave Ht := (bigSep_Ico (show 13 + 1 < 15 by omega) _).1 $$ Ht
  icases Ht with ⟨Ht, -⟩
  ihave Hcc := (bigSep_Ico (show 13 - 1 < 13 by omega) _).1 $$ Hcc
  icases Hcc with ⟨Hcc, -⟩
  iapply (wp_head m c f 13 (by omega) hO) $$ [Hx HS HV Hrc Hsc HO]
  · isplitr; · iexact HR
    isplitl [Hx]; · iexact Hx
    isplitl [HS]; · iexact HS
    isplitl [HV]; · iexact HV
    isplitl [Hrc]; · iexact Hrc
    isplitl [Hsc] <;> iassumption
  iintro ⟨Hx, HP, Hs, Hs', HO⟩
  iapply (wp_waitCredit m c f 12 (by omega) (n := 42) (O := Orest + owed c f 13) (hO.add (above_owed (by omega))) (by omega)) $$ [Hcp Hcc HO]
  · isplitr; · iexact HR
    isplitl [Hcp]; · iexact Hcp
    isplitl [Hcc]; · iexact Hcc
    iexact HO
  iintro ⟨Hcp, #Hrdy, HO⟩
  unfold ready
  icases Hrdy with ⟨#Hrl, #Hrch⟩
  iapply (wp_transfer m c f 14 (by omega) (sl 13) (sl_add3 13).symm (O := Orest + owed c f 13) (Orest + owed c f 14)
    (by unfold owed; rw [OR_step c f 14 (by omega), OC_end c f 13 (by omega), OC_end c f 14 (by omega)]; simp only [add_assoc, add_zero])) $$ [Hs Ht HO]
  · isplitr; · iexact HR
    isplitl [Hs]; · iexact Hs
    isplitr; · iexact Hrl
    isplitr; · iexact Hrch
    isplitr; · iexact Hr1
    isplitl [Ht] <;> iassumption
  iintro ⟨Hsc, HO⟩
  iapply Hk
  isplitl [Hx]; · iexact Hx
  isplitr [HO]
  swap; · iexact HO
  isplitl [Hp HP]
  · iapply Hp; iexact HP
  isplitl [Hrc1]; · iexact Hrc1
  isplitl [Hsc]; · iexact Hsc
  isplitl [Hcp]; · iexact Hcp
  isplitl [Hs'] <;> iassumption

theorem wp_stepF (hO : Above 45 Orest) (K : Pr F α) (Q : α → sProp 𝕄) :
    iprop(recs m ∗ xwPts m c ∗ flowL c f ∗ debt c (Orest + owed c f 14))
      ⊢ iprop(((xwPts m c ∗ flowE m c f ∗ debt c (Orest + owed c f 15)) -∗ WP c K Q)
        -∗ WP c (stepF c f 14 (rIx f 16) K) Q) := by
  have hA : Above 45 (Orest + owed c f 14) := hO.add (above_owed (by omega))
  have hA0 : Above 0 (Orest + owed c f 14) := fun g i h => ⟨(hA g i h).1, by have := (hA g i h).2; omega⟩
  unfold flowL flowE
  iintro ⟨#HR, Hx, ⟨Hp, Hrc, Hsc, Hcp, Hs1, Hcol⟩, HO⟩ Hk
  ihave Hp := (poss_succ c f 14) $$ Hp
  icases Hp with ⟨HS, HV, -, -, Hp⟩
  iapply (wp_part m c f (rIx f 16)) $$ Hx
  iintro Hx
  iapply (wp_waitRecv m c f 14 (by omega) (sl 16) hA (Nat.le_refl _)) $$ [HV Hrc HO]
  · isplitr; · iexact HR
    isplitl [HV]; · iexact HV
    isplitl [Hrc] <;> iassumption
  iintro ⟨HV, Hs, HO⟩
  iapply (wp_final c f (sl 14)) $$ [Hs Hcol]
  · isplitl [Hs] <;> iassumption
  iintro ⟨Hs, Hcol⟩
  iapply (wp_waitSend m c f 14 (by omega) (sl 14) hA0) $$ [HS Hsc HO]
  · isplitr; · iexact HR
    isplitl [HS]; · iexact HS
    isplitl [Hsc] <;> iassumption
  iintro ⟨HS, Hs', HO⟩
  iapply Hk
  isplitl [Hx]; · iexact Hx
  isplitr [HO]
  swap
  · rw [show owed c f 14 = owed c f 15 from by
      unfold owed; rw [OR_end c f 15 (by omega), OR_end c f 16 (by omega), OC_end c f 14 (by omega), OC_end c f 15 (by omega)]]
    iexact HO
  isplitl [Hp HS HV]
  · iapply Hp; isplitl [HS] <;> iassumption
  isplitl [Hcp]; · iexact Hcp
  isplitr [Hcol]
  swap; · iexact Hcol
  isplitl [Hs1]; · iexact Hs1
  isplitl [Hs']; · iexact Hs'
  iapply (slotHas_any c f _ _); iexact Hs

/-! ## The first transfer -/

/-- A flow at the body's start, its slots 0 and 1 given to the first two transfers. -/
def flowI (c : Dev nD) (f : Fin 4) : sProp 𝕄 :=
  iprop(poss c f 0 ∗ bigSep (Finset.Ico 0 15) (toks (F := F) c f) ∗ bigSep (Finset.Ico 0 13) (ctok (F := F) c f)
    ∗ bigSep (Finset.Ico 0 15) (rcred (F := F) c f) ∗ bigSep (Finset.Ico 0 13) (ccred (F := F) c f)
    ∗ cpos c f 0 ∗ (rd c f 0 ∗ rd c f 1 ∗ rd c f 2) ∗ colAny c f)

/-- The first product stored in slot 2. -/
theorem wp_stepA (K : Pr F α) (Q : α → sProp 𝕄) : iprop(xwPts m c ∗ slotAny (c, f, (2 : Fin 3)))
      ⊢ iprop(((xwPts m c ∗ slotHas c f (2 : Fin 3) (blk m 0 f c)) -∗ WP c K Q) -∗ WP c (stepA c f (rIx f 1) K) Q) := by
  iintro ⟨Hx, Hs⟩ Hk
  iapply (wp_part m c f (rIx f 1)) $$ Hx
  iintro Hx
  iapply (wp_slot_store c f 2) $$ Hs
  iintro Hs
  iapply Hk
  isplitl [Hx]; · iexact Hx
  iexact Hs

/-- The first transfer. -/
theorem wp_stepT (K : Pr F α) (Q : α → sProp 𝕄) : iprop(recs m ∗ flowI c f ∗ slotHas c f (2 : Fin 3) (blk m 0 f c) ∗ relPay (tgt f c) f ∗ debt c (Orest + (OR c f 0 + OC c f 0)))
      ⊢ iprop(((flowM c f 0 ∗ debt c (Orest + owed c f 0)) -∗ WP c K Q) -∗ WP c (pSend (tgtK f c) f 2 0 K) Q) := by
  unfold flowI flowM
  iintro ⟨#HR, ⟨Hp, Ht, Hct, Hrc, Hcc, Hcp, Hrd, Hcol⟩, Hs, #Hrel, HO⟩ Hk
  ihave Ht := (bigSep_Ico (show 0 < 15 by omega) _).1 $$ Ht
  icases Ht with ⟨Ht, Hts⟩
  ihave #Hrch := (recs_rc0 m (tgt f c) f 0) $$ HR
  ihave #Hsch := (recs_sc0 m c f 0) $$ HR
  ihave #Hrel0 : released ES ((tgt f c, f, sl 0) : Key) 1 $$ []
  · unfold relPay; icases Hrel with ⟨H, -⟩; iexact H
  iapply (wp_transfer m c f 0 (by omega) 2 rfl (O := Orest + (OR c f 0 + OC c f 0)) (Orest + owed c f 0)
    (by unfold owed; rw [OR_step c f 0 (by omega)]; exact add_mid _ _ _ _)) $$ [Hs Ht HO]
  · isplitr; · iexact HR
    isplitl [Hs]; · iexact Hs
    isplitr; · iexact Hrel0
    isplitr; · iexact Hrch
    isplitr; · iexact Hsch
    isplitl [Ht] <;> iassumption
  iintro ⟨Hsc, HO⟩
  iapply Hk
  isplitr [HO]
  swap; · iexact HO
  isplitl [Hp]; · iexact Hp
  isplitl [Hts]; · iexact Hts
  isplitl [Hct]; · iexact Hct
  isplitl [Hrc]; · iexact Hrc
  isplitl [Hcc]; · iexact Hcc
  isplitl [Hsc]; · iexact Hsc
  isplitl [Hcp]; · iexact Hcp
  isplitl [Hrd]; · iexact Hrd
  isplitr
  · unfold readies; rw [Finset.range_zero, bigSep_empty]; iempintro
  isplitr; · iexact Hrel
  iexact Hcol

end

end Cert.RS

end
-- ==== Proof.Body.lean ====
/-
# The body's run

Before the body's `n`-th step (four flows, one after the other) flow `f` is before its own step `(n + 3 - f) / 4`. The
rules of one flow are lifted to this state, and the body is their list.
-/
module

public import proofs.«01_k».proof.Proof.Flow

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)

variable {F : FTy → Type} [FloatOps F]

local notation "𝕄" => MT nD τ sig ℕ (Elt F) ℕ UU ℕ

variable (m : (ℓ : Loc nD τ sig) → Buf (Elt F) ℓ)
variable {α : Type}

variable (c : Dev nD)

/-! ## One flow among four -/

theorem four_swap {Φ Ψ : Fin 4 → sProp 𝕄} (f : Fin 4) (h : ∀ f', f' ≠ f → Φ f' = Ψ f') :
    bigSep Finset.univ Φ ⊢ iprop(Φ f ∗ (Ψ f -∗ bigSep Finset.univ Ψ)) := by
  have h1 : bigSep (insert f (Finset.univ.erase f)) Φ ⊢ iprop(Φ f ∗ bigSep (Finset.univ.erase f) Φ) := (bigSep_ins (Finset.notMem_erase f _) Φ).1
  have h2 : iprop(Ψ f ∗ bigSep (Finset.univ.erase f) Ψ) ⊢ bigSep (insert f (Finset.univ.erase f)) Ψ := (bigSep_ins (Finset.notMem_erase f _) Ψ).2
  rw [Finset.insert_erase (Finset.mem_univ f)] at h1 h2
  rw [bigSep_congr fun i hi => h i (Finset.ne_of_mem_erase hi)] at h1
  iintro H
  ihave H := h1 $$ H
  icases H with ⟨H, Hr⟩
  isplitl [H]; · iexact H
  iintro H
  iapply h2
  isplitl [H] <;> iassumption

theorem sum_swap {M : Type} [AddCommMonoid M] {a b : Fin 4 → M} (f : Fin 4) (h : ∀ f', f' ≠ f → a f' = b f') :
    ∑ x, a x = ∑ x ∈ Finset.univ.erase f, b x + a f := by
  rw [← Finset.sum_erase_add _ _ (Finset.mem_univ f)]
  exact congrArg (· + a f) (Finset.sum_congr rfl fun x hx => h x (Finset.ne_of_mem_erase hx))

/-! ## The state between the body's steps -/

/-- The steps flow `f` has behind it before the body's `n`-th. -/
def stage (n : ℕ) (f : Fin 4) : ℕ := (n + 3 - f.val) / 4

theorem stage_self (s : ℕ) (f : Fin 4) : stage (4 * s + f.val) f = s := by unfold stage; omega
theorem stage_next (s : ℕ) (f : Fin 4) : stage (4 * s + f.val + 1) f = s + 1 := by unfold stage; omega
theorem stage_other (s : ℕ) (f f' : Fin 4) (h : f' ≠ f) : stage (4 * s + f.val) f' = stage (4 * s + f.val + 1) f' := by
  have : f'.val ≠ f.val := fun e => h (Fin.ext e)
  unfold stage; omega
theorem le_stage (s : ℕ) (f f' : Fin 4) : s ≤ stage (4 * s + f.val + 1) f' := by unfold stage; omega

def flowAt (f : Fin 4) (s : ℕ) : sProp 𝕄 := if s ≤ 13 then flowM c f s else if s = 14 then flowL c f else flowE m c f

theorem flowAt_M (f : Fin 4) {s : ℕ} (h : s ≤ 13) : flowAt m c f s = flowM c f s := if_pos h
theorem flowAt_L (f : Fin 4) : flowAt m c f 14 = flowL c f := by unfold flowAt; rw [if_neg (by omega), if_pos rfl]
theorem flowAt_E (f : Fin 4) : flowAt m c f 15 = flowE m c f := by unfold flowAt; rw [if_neg (by omega), if_neg (by omega)]

/-- What device `c` holds before the body's `n`-th step. -/
def Sig (n : ℕ) : sProp 𝕄 :=
  iprop(recs m ∗ xwPts m c ∗ bigSep Finset.univ (fun f => flowAt m c f (stage n f)) ∗ debt c (∑ f, owed c f (stage n f)))

/-- A flow's step is the body's step. -/
theorem lift_step (R : sProp 𝕄) (Q : α → sProp 𝕄) (f : Fin 4) (s : ℕ) (p K : Pr F α)
    (h : ∀ Orest, Above (3 * s + 3) Orest → iprop(recs m ∗ xwPts m c ∗ flowAt m c f s ∗ debt c (Orest + owed c f s))
      ⊢ iprop(((xwPts m c ∗ flowAt m c f (s + 1) ∗ debt c (Orest + owed c f (s + 1))) -∗ WP c K Q) -∗ WP c p Q))
    (hK : iprop(Sig m c (4 * s + f.val + 1) ∗ R) ⊢ WP c K Q) : iprop(Sig m c (4 * s + f.val) ∗ R) ⊢ WP c p Q := by
  have h1 := sum_swap (a := fun x => owed c x (stage (4 * s + f.val) x)) (b := fun x => owed c x (stage (4 * s + f.val + 1) x)) f
    (fun f' hf => by rw [stage_other s f f' hf])
  have h2 := sum_swap (a := fun x => owed c x (stage (4 * s + f.val + 1) x)) (b := fun x => owed c x (stage (4 * s + f.val + 1) x)) f (fun _ _ => rfl)
  have h3 := four_swap (Φ := fun x => flowAt m c x (stage (4 * s + f.val) x)) (Ψ := fun x => flowAt m c x (stage (4 * s + f.val + 1) x)) f
    (fun f' hf => by rw [stage_other s f f' hf])
  have hA : Above (3 * s + 3) (∑ x ∈ Finset.univ.erase f, owed c x (stage (4 * s + f.val + 1) x)) :=
    Above.sum fun x _ => above_owed (by have := le_stage s f x; omega)
  rw [stage_self] at h1 h3
  rw [stage_next] at h2 h3
  unfold Sig at hK ⊢
  rw [h2] at hK
  rw [h1]
  iintro ⟨⟨#HR, Hx, HF, HO⟩, HRest⟩
  ihave HF := h3 $$ HF
  icases HF with ⟨HF, Hback⟩
  iapply (h _ hA) $$ [Hx HF HO]
  · isplitr; · iexact HR
    isplitl [Hx]; · iexact Hx
    isplitl [HF] <;> iassumption
  iintro ⟨Hx, HF, HO⟩
  iapply hK
  isplitr [HRest]
  swap; · iexact HRest
  isplitr; · iexact HR
  isplitl [Hx]; · iexact Hx
  isplitr [HO]
  swap; · iexact HO
  iapply Hback; iexact HF

theorem run_Z (R : sProp 𝕄) (Q : α → sProp 𝕄) (f : Fin 4) (K : Pr F α) (hK : iprop(Sig m c (4 * 0 + f.val + 1) ∗ R) ⊢ WP c K Q) :
    iprop(Sig m c (4 * 0 + f.val) ∗ R) ⊢ WP c (stepZ c f 0 (rIx f (0 + 2)) K) Q :=
  lift_step m c R Q f 0 _ K (fun Orest hO => by rw [flowAt_M m c f (show 0 ≤ 13 by omega), flowAt_M m c f (show 0 + 1 ≤ 13 by omega)]; exact wp_stepZ m c f hO K Q) hK
theorem run_M (R : sProp 𝕄) (Q : α → sProp 𝕄) (f : Fin 4) (j : ℕ) (hj : j < 12) (K : Pr F α) (hK : iprop(Sig m c (4 * (j + 1) + f.val + 1) ∗ R) ⊢ WP c K Q) :
    iprop(Sig m c (4 * (j + 1) + f.val) ∗ R) ⊢ WP c (stepM c f (j + 1) (rIx f (j + 1 + 2)) K) Q :=
  lift_step m c R Q f (j + 1) _ K (fun Orest hO => by
    rw [flowAt_M m c f (show j + 1 ≤ 13 by omega), flowAt_M m c f (show j + 1 + 1 ≤ 13 by omega)]; exact wp_stepM m c f j hj hO K Q) hK
theorem run_L (R : sProp 𝕄) (Q : α → sProp 𝕄) (f : Fin 4) (K : Pr F α) (hK : iprop(Sig m c (4 * 13 + f.val + 1) ∗ R) ⊢ WP c K Q) :
    iprop(Sig m c (4 * 13 + f.val) ∗ R) ⊢ WP c (stepL c f 13 (rIx f (13 + 2)) K) Q :=
  lift_step m c R Q f 13 _ K (fun Orest hO => by rw [flowAt_M m c f (show 13 ≤ 13 by omega), flowAt_L m c f]; exact wp_stepL m c f hO K Q) hK
theorem run_F (R : sProp 𝕄) (Q : α → sProp 𝕄) (f : Fin 4) (K : Pr F α) (hK : iprop(Sig m c (4 * 14 + f.val + 1) ∗ R) ⊢ WP c K Q) :
    iprop(Sig m c (4 * 14 + f.val) ∗ R) ⊢ WP c (stepF c f 14 (rIx f (14 + 2)) K) Q :=
  lift_step m c R Q f 14 _ K (fun Orest hO => by rw [flowAt_L m c f, flowAt_E m c f]; exact wp_stepF m c f hO K Q) hK

/-! ## The start -/

/-- A flow whose first transfer has not started, -/
def flow0 (f : Fin 4) : sProp 𝕄 := iprop(flowI c f ∗ slotAny (c, f, (2 : Fin 3)))
def owed0 (f : Fin 4) : CellTallies nD τ sig ℕ := OR c f 0 + OC c f 0

/-- What device `c` holds when `n` flows have started. -/
def SigI (n : ℕ) : sProp 𝕄 :=
  iprop(recs m ∗ xwPts m c ∗ bigSep Finset.univ (fun f : Fin 4 => if f.val < n then flowM c f 0 else flow0 c f)
    ∗ debt c (∑ f : Fin 4, if f.val < n then owed c f 0 else owed0 c f))

/-- The neighbours' slots are free for the first two transfers. -/
def rels : sProp 𝕄 := iprop(barPay c 0 ∗ barPay c 1)

instance rels_persistent : BI.Persistent (rels (F := F) c) := by unfold rels; infer_instance

theorem rels_elim (f : Fin 4) : rels (F := F) c ⊢ relPay (tgt f c) f := by
  unfold rels barPay tgt
  rw [if_pos rfl, if_neg (by decide)]
  fin_cases f
  · iintro ⟨⟨H, -⟩, -⟩; iexact H
  · iintro ⟨-, H, -⟩; iexact H
  · iintro ⟨⟨-, H⟩, -⟩; iexact H
  · iintro ⟨-, -, H⟩; iexact H

/-- The first transfer of flow `f`, the program `p` before it taking device `c` through the barrier if it has to. -/
theorem lift_start (Q : α → sProp 𝕄) (f : Fin 4) (p K : Pr F α) (R R' : sProp 𝕄)
    (h : ∀ Orest, Above 1 Orest → iprop(recs m ∗ R ∗ xwPts m c ∗ flow0 c f ∗ debt c (Orest + owed0 c f))
      ⊢ iprop(((R' ∗ xwPts m c ∗ flowM c f 0 ∗ debt c (Orest + owed c f 0)) -∗ WP c K Q) -∗ WP c p Q))
    (hK : iprop(SigI m c (f.val + 1) ∗ R') ⊢ WP c K Q) : iprop(SigI m c f.val ∗ R) ⊢ WP c p Q := by
  have ho : ∀ f' : Fin 4, f' ≠ f → ((f'.val < f.val) ↔ (f'.val < f.val + 1)) := fun f' hf => by
    have : f'.val ≠ f.val := fun e => hf (Fin.ext e)
    omega
  have h1 := sum_swap (a := fun x : Fin 4 => if x.val < f.val then owed c x 0 else owed0 c x)
    (b := fun x : Fin 4 => if x.val < f.val + 1 then owed c x 0 else owed0 c x) f (fun f' hf => by simp only [ho f' hf])
  have h2 := sum_swap (a := fun x : Fin 4 => if x.val < f.val + 1 then owed c x 0 else owed0 c x)
    (b := fun x : Fin 4 => if x.val < f.val + 1 then owed c x 0 else owed0 c x) f (fun _ _ => rfl)
  have h3 := four_swap (Φ := fun x : Fin 4 => if x.val < f.val then flowM (F := F) c x 0 else flow0 c x)
    (Ψ := fun x : Fin 4 => if x.val < f.val + 1 then flowM (F := F) c x 0 else flow0 c x) f (fun f' hf => by simp only [ho f' hf])
  have hA : Above 1 (∑ x ∈ Finset.univ.erase f, if x.val < f.val + 1 then owed c x 0 else owed0 c x) :=
    Above.sum fun x _ => by
      split
      · exact above_owed (by omega)
      · exact (above_OR (by omega)).add (above_OC (by omega))
  rw [if_neg (Nat.lt_irrefl _)] at h1 h3
  rw [if_pos (Nat.lt_succ_self _)] at h2 h3
  unfold SigI at hK ⊢
  rw [h2] at hK
  rw [h1]
  iintro ⟨⟨#HR, Hx, HF, HO⟩, HRest⟩
  ihave HF := h3 $$ HF
  icases HF with ⟨HF, Hback⟩
  iapply (h _ hA) $$ [Hx HF HO HRest]
  · isplitr; · iexact HR
    isplitl [HRest]; · iexact HRest
    isplitl [Hx]; · iexact Hx
    isplitl [HF] <;> iassumption
  iintro ⟨HRest, Hx, HF, HO⟩
  iapply hK
  isplitr [HRest]
  swap; · iexact HRest
  isplitr; · iexact HR
  isplitl [Hx]; · iexact Hx
  isplitr [HO]
  swap; · iexact HO
  iapply Hback; iexact HF

theorem run_first (R : sProp 𝕄) (Q : α → sProp 𝕄) (f : Fin 4) (K : Pr F α) (hK : iprop(SigI m c (f.val + 1) ∗ rels c ∗ R) ⊢ WP c K Q) :
    iprop(SigI m c f.val ∗ rels c ∗ R) ⊢ WP c (stepA c f (rIx f 1) (pSend (tgtK f c) f 2 0 K)) Q :=
  lift_start m c Q f _ K _ _ (fun Orest hO => by
    unfold flow0
    iintro ⟨#HR, ⟨#Hrels, HRest⟩, Hx, ⟨HF, Hs⟩, HO⟩ Hk
    iapply (wp_stepA m c f) $$ [Hx Hs]
    · isplitl [Hx] <;> iassumption
    iintro ⟨Hx, Hs⟩
    iapply (wp_stepT m c f (Orest := Orest)) $$ [HF Hs HO]
    · isplitr; · iexact HR
      isplitl [HF]; · iexact HF
      isplitl [Hs]; · iexact Hs
      isplitr; · iapply (rels_elim c f); iexact Hrels
      iexact HO
    iintro ⟨HF, HO⟩
    iapply Hk
    isplitl [HRest]
    · isplitr; · iexact Hrels
      iexact HRest
    isplitl [Hx]; · iexact Hx
    isplitl [HF] <;> iassumption) hK

/-- The barrier's cell before it is waited for. -/
def bar0 : sProp 𝕄 := iprop(atPos ER (bc c) 0 ∅ 0 ∗ cred (tallyAt (bc c) 0 2))

theorem run_zero (R : sProp 𝕄) (Q : α → sProp 𝕄) (K : Pr F α) (hK : iprop(SigI m c 1 ∗ rels c ∗ atPos ER (bc c) 1 ∅ 0 ∗ R) ⊢ WP c K Q) :
    iprop(SigI m c 0 ∗ bar0 c ∗ R) ⊢ WP c (stepA c 0 (rIx 0 1) (pWait barS 2#32 (pSend (tgtK 0 c) 0 2 0 K))) Q :=
  lift_start m c Q 0 _ K _ _ (fun Orest hO => by
    unfold flow0 bar0
    iintro ⟨#HR, ⟨⟨Hb, Hc⟩, HRest⟩, Hx, ⟨HF, Hs⟩, HO⟩ Hk
    iapply (wp_stepA m c 0) $$ [Hx Hs]
    · isplitl [Hx] <;> iassumption
    iintro ⟨Hx, Hs⟩
    iapply (wp_barWait m c (O := Orest + owed0 c 0) (hO.add ((above_OR (by omega)).add (above_OC (by omega))))) $$ [Hb Hc HO]
    · isplitr; · iexact HR
      isplitl [Hb]; · iexact Hb
      isplitl [Hc] <;> iassumption
    iintro ⟨Hb, #Hp0, #Hp1, HO⟩
    ihave #Hrels : rels (F := F) c $$ []
    · unfold rels; isplitr <;> iassumption
    iapply (wp_stepT m c 0 (Orest := Orest)) $$ [HF Hs HO]
    · isplitr; · iexact HR
      isplitl [HF]; · iexact HF
      isplitl [Hs]; · iexact Hs
      isplitr; · iapply (rels_elim c 0); iexact Hrels
      iexact HO
    iintro ⟨HF, HO⟩
    iapply Hk
    isplitl [HRest Hb]
    · isplitr; · iexact Hrels
      isplitl [Hb] <;> iassumption
    isplitl [Hx]; · iexact Hx
    isplitl [HF] <;> iassumption) hK

theorem SigI_four : SigI m c 4 = Sig m c 0 := by
  have h0 : ∀ f, stage 0 f = 0 := fun f => by unfold stage; omega
  have h1 : (fun f : Fin 4 => if f.val < 4 then flowM (F := F) c f 0 else flow0 c f) = fun f => flowAt m c f (stage 0 f) :=
    funext fun f => by rw [if_pos f.isLt, h0, flowAt_M m c f (show 0 ≤ 13 by omega)]
  have h2 : (fun f : Fin 4 => if f.val < 4 then owed c f 0 else owed0 c f) = fun f => owed c f (stage 0 f) :=
    funext fun f => by rw [if_pos f.isLt, h0]
  unfold SigI Sig
  rw [h1, h2]

/-- The body at its start: nothing sent, both neighbours to be told. -/
def Start : sProp 𝕄 :=
  iprop(recs m ∗ xwPts m c ∗ bigSep Finset.univ (flow0 (F := F) c) ∗ (relPay c 0 ∗ relPay c 1 ∗ relPay c 2 ∗ relPay c 3)
    ∗ dutyTok ER (bc (lf c)) 0 0 ∗ dutyTok ER (bc (rt c)) 0 1 ∗ bar0 c
    ∗ debt c (∑ f, owed0 c f + tallyAt (bc (rt c)) 0 1 + tallyAt (bc (lf c)) 0 1))

theorem run_start (R : sProp 𝕄) (Q : α → sProp 𝕄) (K : Pr F α) (hK : iprop(SigI m c 0 ∗ bar0 c ∗ R) ⊢ WP c K Q) :
    iprop(Start m c ∗ R) ⊢ WP c (pSignal ⟨k0_dev1 c, k0_dev1_lt c⟩ barS (pSignal ⟨k0_dev2 c, k0_dev2_lt c⟩ barS K)) Q := by
  unfold Start
  iintro ⟨⟨#HR, Hx, HF, ⟨#H0, #H1, #H2, #H3⟩, Ht0, Ht1, Hb, HO⟩, HRest⟩
  iapply (wp_barSignal m c _ (lf c) (dev1_eq c) 0 (by decide) (∑ f, owed0 c f + tallyAt (bc (rt c)) 0 1) rfl) $$ [Ht0 HO]
  · isplitr; · iexact HR
    isplitr
    · unfold barPay; rw [if_pos rfl, rt_lf]; isplitr <;> iassumption
    isplitl [Ht0] <;> iassumption
  iintro HO
  iapply (wp_barSignal m c _ (rt c) (dev2_eq c) 1 (by decide) (∑ f, owed0 c f) rfl) $$ [Ht1 HO]
  · isplitr; · iexact HR
    isplitr
    · unfold barPay; rw [if_neg (by decide), lf_rt]; isplitr <;> iassumption
    isplitl [Ht1] <;> iassumption
  iintro HO
  iapply hK
  isplitr [HRest Hb]
  swap
  · isplitl [Hb] <;> iassumption
  unfold SigI
  isplitr; · iexact HR
  isplitl [Hx]; · iexact Hx
  isplitl [HF]
  · rw [show (fun f : Fin 4 => if f.val < 0 then flowM (F := F) c f 0 else flow0 c f) = flow0 c from funext fun f => if_neg (Nat.not_lt_zero _)]
    iexact HF
  · rw [show (fun f : Fin 4 => if f.val < 0 then owed c f 0 else owed0 c f) = owed0 c from funext fun f => if_neg (Nat.not_lt_zero _)]
    iexact HO

/-! ## The list of steps -/

set_option maxRecDepth 20000 in
set_option maxHeartbeats 0 in
/-- The body is the list of its steps, for any statement about its rests. -/
theorem body_steps (I J W : ℕ → Pr F PUnit → Prop)
    (hd : ∀ k : Dev nD → Pr F PUnit, I 0 (k c) → I 0 (.op .deviceId k))
    (hl : ∀ k, J 0 k → I 0 (pSignal ⟨k0_dev1 c, k0_dev1_lt c⟩ barS (pSignal ⟨k0_dev2 c, k0_dev2_lt c⟩ barS k)))
    (h0 : ∀ k, J 1 k → J 0 (stepA c 0 (rIx 0 1) (pWait barS 2#32 (pSend (tgtK 0 c) 0 2 0 k))))
    (hf : ∀ f : Fin 4, f ≠ 0 → ∀ k, J (f.val + 1) k → J f.val (stepA c f (rIx f 1) (pSend (tgtK f c) f 2 0 k)))
    (hw : ∀ k, W 0 k → J 4 k)
    (hZ : ∀ (f : Fin 4) k, W (4 * 0 + f.val + 1) k → W (4 * 0 + f.val) (stepZ c f 0 (rIx f (0 + 2)) k))
    (hM : ∀ (f : Fin 4) j, j < 12 → ∀ k, W (4 * (j + 1) + f.val + 1) k → W (4 * (j + 1) + f.val) (stepM c f (j + 1) (rIx f (j + 1 + 2)) k))
    (hL : ∀ (f : Fin 4) k, W (4 * 13 + f.val + 1) k → W (4 * 13 + f.val) (stepL c f 13 (rIx f (13 + 2)) k))
    (hF : ∀ (f : Fin 4) k, W (4 * 14 + f.val + 1) k → W (4 * 14 + f.val) (stepF c f 14 (rIx f (14 + 2)) k))
    (he : W 60 (.ret ⟨⟩)) :
    I 0 (cc0_body xM (Memref.isWhole_whole _) wM (Memref.isWhole_whole _) oM (Memref.isWhole_whole _) sM (Memref.isWhole_whole _)
      cc0_scratch1 cc0_scratch2 cc0_scratch3) := by
  refine hd _ ?_
  refine hl _ ?_
  refine h0 _ ?_
  refine hf 1 (by decide) _ ?_
  refine hf 2 (by decide) _ ?_
  refine hf 3 (by decide) _ ?_
  refine hw _ ?_
  refine hZ 0 _ ?_
  refine hZ 1 _ ?_
  refine hZ 2 _ ?_
  refine hZ 3 _ ?_
  refine hM 0 0 (by decide) _ ?_
  refine hM 1 0 (by decide) _ ?_
  refine hM 2 0 (by decide) _ ?_
  refine hM 3 0 (by decide) _ ?_
  refine hM 0 1 (by decide) _ ?_
  refine hM 1 1 (by decide) _ ?_
  refine hM 2 1 (by decide) _ ?_
  refine hM 3 1 (by decide) _ ?_
  refine hM 0 2 (by decide) _ ?_
  refine hM 1 2 (by decide) _ ?_
  refine hM 2 2 (by decide) _ ?_
  refine hM 3 2 (by decide) _ ?_
  refine hM 0 3 (by decide) _ ?_
  refine hM 1 3 (by decide) _ ?_
  refine hM 2 3 (by decide) _ ?_
  refine hM 3 3 (by decide) _ ?_
  refine hM 0 4 (by decide) _ ?_
  refine hM 1 4 (by decide) _ ?_
  refine hM 2 4 (by decide) _ ?_
  refine hM 3 4 (by decide) _ ?_
  refine hM 0 5 (by decide) _ ?_
  refine hM 1 5 (by decide) _ ?_
  refine hM 2 5 (by decide) _ ?_
  refine hM 3 5 (by decide) _ ?_
  refine hM 0 6 (by decide) _ ?_
  refine hM 1 6 (by decide) _ ?_
  refine hM 2 6 (by decide) _ ?_
  refine hM 3 6 (by decide) _ ?_
  refine hM 0 7 (by decide) _ ?_
  refine hM 1 7 (by decide) _ ?_
  refine hM 2 7 (by decide) _ ?_
  refine hM 3 7 (by decide) _ ?_
  refine hM 0 8 (by decide) _ ?_
  refine hM 1 8 (by decide) _ ?_
  refine hM 2 8 (by decide) _ ?_
  refine hM 3 8 (by decide) _ ?_
  refine hM 0 9 (by decide) _ ?_
  refine hM 1 9 (by decide) _ ?_
  refine hM 2 9 (by decide) _ ?_
  refine hM 3 9 (by decide) _ ?_
  refine hM 0 10 (by decide) _ ?_
  refine hM 1 10 (by decide) _ ?_
  refine hM 2 10 (by decide) _ ?_
  refine hM 3 10 (by decide) _ ?_
  refine hM 0 11 (by decide) _ ?_
  refine hM 1 11 (by decide) _ ?_
  refine hM 2 11 (by decide) _ ?_
  refine hM 3 11 (by decide) _ ?_
  refine hL 0 _ ?_
  refine hL 1 _ ?_
  refine hL 2 _ ?_
  refine hL 3 _ ?_
  refine hF 0 _ ?_
  refine hF 1 _ ?_
  refine hF 2 _ ?_
  refine hF 3 _ ?_
  exact he

/-- The body runs from its start to the state after its last step. -/
theorem run_body (R : sProp 𝕄) (Q : PUnit → sProp 𝕄)
    (he : iprop(Sig m c 60 ∗ rels c ∗ atPos ER (bc c) 1 ∅ 0 ∗ R) ⊢ WP c (.ret ⟨⟩) Q) :
    iprop(Start m c ∗ R) ⊢ WP c (cc0_body xM (Memref.isWhole_whole _) wM (Memref.isWhole_whole _) oM (Memref.isWhole_whole _) sM (Memref.isWhole_whole _)
      cc0_scratch1 cc0_scratch2 cc0_scratch3) Q :=
  body_steps c (fun _ k => iprop(Start m c ∗ R) ⊢ WP c k Q)
    (fun n k => if n = 0 then iprop(SigI m c 0 ∗ bar0 c ∗ R) ⊢ WP c k Q else iprop(SigI m c n ∗ rels c ∗ atPos ER (bc c) 1 ∅ 0 ∗ R) ⊢ WP c k Q)
    (fun n k => iprop(Sig m c n ∗ rels c ∗ atPos ER (bc c) 1 ∅ 0 ∗ R) ⊢ WP c k Q)
    (fun k h => h.trans (Entails.of_eq (wp_deviceId _ _ _ _).symm))
    (fun k h => run_start m c R Q k h)
    (fun k h => run_zero m c R Q k h)
    (fun f hf k h => by
      rw [if_neg (fun e : f.val = 0 => hf (Fin.ext e))]
      exact run_first m c _ Q f k ((if_neg (Nat.succ_ne_zero _)).mp h))
    (fun k h => by rw [if_neg (by decide), SigI_four]; exact h)
    (fun f k h => run_Z m c _ Q f k h) (fun f j hj k h => run_M m c _ Q f j hj k h)
    (fun f k h => run_L m c _ Q f k h) (fun f k h => run_F m c _ Q f k h) he

end Cert.RS

end
-- ==== Proof.Own.lean ====
/-
# One device's buffers and cells at the body's two ends

At its start a device cuts its communication buffer in the flows' slots and its result in the flows' columns, and says
that the first two slots of each flow are free. At its end it closes its cells and puts both buffers together again.
-/
module

public import proofs.«01_k».proof.Proof.Body
public import Idealize.ShloMosaic.Lib.Ring
public import Idealize.ShloMosaic.Lib.ViewIndex

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)

variable {F : FTy → Type} [FloatOps F]

local notation "𝕄" => MT nD τ sig ℕ (Elt F) ℕ UU ℕ

variable (m : (ℓ : Loc nD τ sig) → Buf (Elt F) ℓ)

/-! ## The cells of a device, flow by flow -/

/-- The kernel's own semaphores by flow and slot. -/
def ofFlow : (Fin 4 × Fin 3) ⊕ (Fin 4 × Fin 3) ⊕ Fin 4 → Fin 28
  | .inl p => ⟨3 * p.1.val + p.2.val, by omega⟩
  | .inr (.inl p) => ⟨12 + (3 * p.1.val + p.2.val), by omega⟩
  | .inr (.inr f) => ⟨24 + f.val, by omega⟩

theorem ofFlow_bijective : Function.Bijective ofFlow := by decide +kernel

theorem csem_osem (i : Fin 28) : csem ⟨i.val, by omega⟩ = osem i := dif_pos i.isLt

theorem sep_eq {P P' Q Q' : sProp 𝕄} (h : P = P') (h' : Q = Q') : iprop(P ∗ Q) = iprop(P' ∗ Q') := by rw [h, h']

/-- A statement for each semaphore of one flow. -/
def perFlow (Φ : SemLoc sig → sProp 𝕄) (f : Fin 4) : sProp 𝕄 :=
  iprop((bigSep Finset.univ fun k : Fin 3 => Φ (.dma (sendS f k))) ∗ (bigSep Finset.univ fun k : Fin 3 => Φ (.dma (recvS f k))) ∗ Φ (.reg (credS f)))

theorem own_split (Φ : SemLoc sig → sProp 𝕄) :
    bigSep Finset.univ (fun i : Fin 28 => Φ (osem i)) = bigSep Finset.univ (perFlow Φ) := by
  rw [bigSep_univ_equiv (Equiv.ofBijective ofFlow ofFlow_bijective) (fun i : Fin 28 => Φ (osem i)), bigSep_univ_sum, bigSep_univ_sum,
    bigSep_univ_prod, bigSep_univ_prod]
  unfold perFlow
  rw [bigSep_sep', bigSep_sep']
  exact sep_eq (bigSep_congr fun f _ => bigSep_congr fun k _ => congrArg Φ ((csem_osem _).symm.trans (csem_send f k)))
    (sep_eq (bigSep_congr fun f _ => bigSep_congr fun k _ => congrArg Φ ((csem_osem _).symm.trans (csem_recv f k)))
      (bigSep_congr fun f _ => congrArg Φ ((csem_osem _).symm.trans (csem_cred f))))

theorem cells_split (Φ : SemLoc sig → sProp 𝕄) :
    bigSep Finset.univ (fun i : Fin 29 => Φ (csem i)) = iprop(bigSep Finset.univ (fun i : Fin 28 => Φ (osem i)) ∗ Φ (.reg barS)) := by
  rw [bigSep_univ_equiv (finSumFinEquiv (m := 28) (n := 1)) (fun i : Fin 29 => Φ (csem i)), bigSep_univ_sum]
  exact sep_eq (bigSep_congr fun i _ => congrArg Φ (csem_osem i)) (bigSep_univ_of_subsingleton (0 : Fin 1))

theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-! ## The communication buffer -/

theorem slots_disjoint (p q : Fin 4 × Fin 3) (h : p ≠ q) : Disjoint (slotM p.1 p.2).view.set (slotM q.1 q.2).view.set := by
  rw [slot_set, slot_set]
  refine View.disjoint_slice ?_
  by_cases h1 : p.1 = q.1
  · refine Rect.disjoint_of_axis _ _ (1 : Fin 4) fun i hi j hj e => h (Prod.ext h1 (Fin.ext ?_))
    have e : p.2.val + 1 * i = q.2.val + 1 * j := e
    have hi : i < 1 := hi
    have hj : j < 1 := hj
    omega
  · refine Rect.disjoint_of_axis _ _ (0 : Fin 4) fun i hi j hj e => h1 (Fin.ext ?_)
    have e : p.1.val + 1 * i = q.1.val + 1 * j := e
    have hi : i < 1 := hi
    have hj : j < 1 := hj
    omega

/-- A slot's elements in the buffer. -/
abbrev slotSet (c : Dev nD) (p : Fin 4 × Fin 3) : Finset (Idx ((c : Thread nD τ).loc cc0_scratch0)) := (slotM p.1 p.2).view.set

theorem mem_slot (i : S4x3x512x1024.Idx) (f : Fin 4) (k : Fin 3) (h0 : (i (0 : Fin 4)).val = f.val) (h1 : (i (1 : Fin 4)).val = k.val) :
    i ∈ (slotM f k).view.set := by
  rw [slot_set]
  show i ∈ (sM.view.slice (slotR f k)).set
  rw [View.set_slice]
  refine Finset.mem_map.mpr ⟨i, ?_, rfl⟩
  refine (LoadRect.mem_set _).mpr fun a => ?_
  fin_cases a
  · exact ⟨0, Nat.one_pos, h0⟩
  · exact ⟨0, Nat.one_pos, h1⟩
  · exact ⟨(i (2 : Fin 4)).val, (i (2 : Fin 4)).isLt, by show (i (2 : Fin 4)).val = 0 + 1 * (i (2 : Fin 4)).val; omega⟩
  · exact ⟨(i (3 : Fin 4)).val, (i (3 : Fin 4)).isLt, by show (i (3 : Fin 4)).val = 0 + 1 * (i (3 : Fin 4)).val; omega⟩

theorem slots_cover (c : Dev nD) : (Finset.univ : Finset (Fin 4 × Fin 3)).biUnion (slotSet c) = Finset.univ :=
  Finset.eq_univ_iff_forall.mpr fun i => Finset.mem_biUnion.mpr ⟨((i (0 : Fin 4) : Fin 4), (i (1 : Fin 4) : Fin 3)), Finset.mem_univ _, mem_slot i _ _ rfl rfl⟩

/-- The communication buffer, at any contents. -/
def scr (c : Dev nD) : sProp 𝕄 := iprop(∃ g : Buf (Elt F) ((c : Thread nD τ).loc cc0_scratch0), ((c : Thread nD τ).loc cc0_scratch0) ↦{fullShare} g)

theorem scr_split (c : Dev nD) : scr (F := F) c ⊢ bigSep Finset.univ fun f : Fin 4 => bigSep Finset.univ fun k : Fin 3 => slotAny (c, f, k) := by
  rw [← bigSep_univ_prod (fun p : Fin 4 × Fin 3 => slotAny (F := F) (c, p.1, p.2))]
  unfold scr
  iintro ⟨%g, H⟩
  have h0 : (((c : Thread nD τ).loc cc0_scratch0) ↦{fullShare} g : sProp 𝕄)
      ⊢ bigSep Finset.univ (fun p : Fin 4 × Fin 3 => (((c : Thread nD τ).loc cc0_scratch0) ↦[slotSet c p]{fullShare} g : sProp 𝕄)) :=
    Entails.of_eq (Ring.pointsTo_blocks (slotSet c) slots_disjoint (slots_cover c) g)
  ihave H := h0 $$ H
  have h : bigSep Finset.univ (fun p : Fin 4 × Fin 3 => (((c : Thread nD τ).loc cc0_scratch0) ↦[slotSet c p]{fullShare} g : sProp 𝕄))
      ⊢ bigSep Finset.univ (fun p : Fin 4 × Fin 3 => slotAny (F := F) (c, p.1, p.2)) := bigSep_mono fun p _ => by
    have h1 : (((c : Thread nD τ).loc cc0_scratch0) ↦[slotSet c p]{fullShare} g : sProp 𝕄) ⊢ slotAny (F := F) (c, p.1, p.2) := by
      unfold slotAny slot; iintro H; iexists g; iexact H
    exact h1
  iapply h; iexact H

theorem scr_join (c : Dev nD) : (bigSep Finset.univ fun f : Fin 4 => bigSep Finset.univ fun k : Fin 3 => slotAny (F := F) (c, f, k)) ⊢ scr c := by
  rw [← bigSep_univ_prod (fun p : Fin 4 × Fin 3 => slotAny (F := F) (c, p.1, p.2))]
  exact Ring.pointsTo_blocks_join_exists (ℓ := (c : Thread nD τ).loc cc0_scratch0) (slotSet c)
    slots_disjoint (slots_cover c) (fun _ => Classical.arbitrary _)

/-! ## The result -/

/-- The flow of a group of 1024 columns. -/
def flowOf : Fin 4 → Fin 4 | 0 => 0 | 1 => 2 | 2 => 1 | 3 => 3

theorem flowOf_col (f : Fin 4) (j : ℕ) (h : j < 1024) : ∀ hq, flowOf ⟨(colOf f + j) / 1024, hq⟩ = f := by
  intro hq
  have e : (colOf f + j) / 1024 = colOf f / 1024 := by
    fin_cases f <;> simp only [colOf] <;> omega
  have h0 : ∀ (f : Fin 4) (q : Fin 4), q.val = colOf f / 1024 → flowOf q = f := by decide
  exact h0 f ⟨_, hq⟩ e

/-- Device `c`'s result: each flow's columns. -/
def outAll (c : Dev nD) : FVec F S512x4096 .f32 := fun i =>
  outv m (flowOf ⟨(i (1 : Fin 2)).val / 1024, by have : (i (1 : Fin 2)).val < 4096 := (i (1 : Fin 2)).isLt; omega⟩) c
    (fun a => match a with
      | ⟨0, _⟩ => (⟨(i (0 : Fin 2)).val, (i (0 : Fin 2)).isLt⟩ : Fin 512)
      | ⟨1, _⟩ => (⟨(i (1 : Fin 2)).val % 1024, Nat.mod_lt _ (by decide)⟩ : Fin 1024))

theorem outAll_col (c : Dev nD) (f : Fin 4) : (fun j => outAll m c ((colR f).emb j)) = outv m f c := by
  funext j
  have h1 : (j (1 : Fin 2)).val < 1024 := (j (1 : Fin 2)).isLt
  have e0 : ((colR f).emb j (0 : Fin 2)).val = (j (0 : Fin 2)).val := by show 0 + 1 * (j (0 : Fin 2)).val = _; omega
  have e1 : ((colR f).emb j (1 : Fin 2)).val = colOf f + (j (1 : Fin 2)).val := by show colOf f + 1 * (j (1 : Fin 2)).val = _; omega
  have hm : (colOf f + (j (1 : Fin 2)).val) % 1024 = (j (1 : Fin 2)).val := by
    fin_cases f <;> simp only [colOf] <;> omega
  unfold outAll
  simp only [e0, e1, hm]
  rw [flowOf_col f _ h1]
  refine congrArg (outv m f c) (funext fun a => ?_)
  fin_cases a <;> rfl

theorem cols_disjoint (f f' : Fin 4) (h : f ≠ f') : Disjoint (colR f).set (colR f').set := by
  refine Rect.disjoint_of_axis _ _ (1 : Fin 2) fun i hi j hj e => ?_
  have e : colOf f + 1 * i = colOf f' + 1 * j := e
  have hi : i < 1024 := hi
  have hj : j < 1024 := hj
  fin_cases f <;> fin_cases f' <;> simp only [colOf] at e <;> first | exact h rfl | omega

theorem cols_cover : (Finset.univ : Finset (Fin 4)).biUnion (fun f => (colR f).set) = Finset.univ := by
  refine Finset.eq_univ_iff_forall.mpr fun i => ?_
  have h1 : (i (1 : Fin 2)).val < 4096 := (i (1 : Fin 2)).isLt
  have hc : ∀ q : Fin 4, colOf (flowOf q) = 1024 * q.val := by decide
  refine Finset.mem_biUnion.mpr ⟨flowOf ⟨(i (1 : Fin 2)).val / 1024, by omega⟩, Finset.mem_univ _, (LoadRect.mem_set _).mpr fun a => ?_⟩
  fin_cases a
  · exact ⟨(i (0 : Fin 2)).val, (i (0 : Fin 2)).isLt, by show (i (0 : Fin 2)).val = 0 + 1 * (i (0 : Fin 2)).val; omega⟩
  · refine ⟨(i (1 : Fin 2)).val % 1024, Nat.mod_lt _ (by decide), ?_⟩
    show (i (1 : Fin 2)).val = colOf _ + 1 * _
    rw [hc]; show _ = 1024 * ((i (1 : Fin 2)).val / 1024) + _; omega

theorem cols_split (c : Dev nD) (X : FVec F S512x4096 .f32) :
    owns (c : Thread nD τ) oM fullShare X ⊢ bigSep Finset.univ (colAny (F := F) c) := by
  have h : owns (c : Thread nD τ) oM fullShare X
      ⊢ (bigSep Finset.univ fun f => owns (c : Thread nD τ) (oM.slice (colR f) (fun _ => rfl)) fullShare (fun j => X ((colR f).emb j)) : sProp 𝕄) :=
    owns_rects (Val := Elt F) (c : Thread nD τ) oM fullShare colR (fun _ _ => rfl) cols_disjoint cols_cover X
  refine h.trans (bigSep_mono fun f _ => ?_)
  have h1 : (owns (c : Thread nD τ) (oM.slice (colR f) (fun _ => rfl)) fullShare (fun j => X ((colR f).emb j)) : sProp 𝕄) ⊢ colAny (F := F) c f := by
    unfold colAny; iintro H; iexists _; iexact H
  exact h1

theorem cols_join (c : Dev nD) :
    (bigSep Finset.univ fun f => colHas c f (outv m f c)) ⊢ owns (c : Thread nD τ) oM fullShare (outAll m c) := by
  have h : (bigSep Finset.univ fun f => owns (c : Thread nD τ) (oM.slice (colR f) (fun _ => rfl)) fullShare (fun j => outAll m c ((colR f).emb j)) : sProp 𝕄)
      ⊢ owns (c : Thread nD τ) oM fullShare (outAll m c) :=
    owns_of_rects (Val := Elt F) (c : Thread nD τ) oM fullShare colR (fun _ _ => rfl) cols_disjoint cols_cover (outAll m c)
  rw [bigSep_congr fun f _ => by rw [outAll_col m c f]] at h
  unfold colHas
  exact h

/-! ## A flow at the body's start -/

/-- What the launch deals a device for flow `f`: its positions, its duties, its slots' counts, -/
def gF (c : Dev nD) (f : Fin 4) : sProp 𝕄 :=
  iprop(perFlow (fun s => (atPos ER ((c : Thread nD τ), s) 0 ∅ 0 : sProp 𝕄)) f ∗ bigSep (Finset.Ico 0 15) (toks (F := F) c f)
    ∗ bigSep (Finset.Ico 0 13) (ctok (F := F) c f) ∗ (bigSep Finset.univ fun k : Fin 3 => (readerAt ES ((c, f, k) : Key) 0 : sProp 𝕄)))
/-- and the units it waits for. -/
def cF (c : Dev nD) (f : Fin 4) : sProp 𝕄 :=
  iprop(bigSep (Finset.Ico 0 15) (rcred (F := F) c f) ∗ bigSep (Finset.Ico 0 13) (ccred (F := F) c f))

theorem flow_in (c : Dev nD) (f : Fin 4) :
    iprop(recs m ∗ (gF c f ∗ cF c f) ∗ colAny c f ∗ bigSep Finset.univ (fun k : Fin 3 => slotAny (F := F) (c, f, k)))
      ⊢ iprop(|={Set.univ}=> (flow0 c f ∗ relPay c f)) := by
  unfold gF cF perFlow
  rw [bigSep_three, bigSep_three, bigSep_three, bigSep_three]
  iintro ⟨#HR, ⟨⟨⟨⟨HS0, HS1, HS2⟩, ⟨HV0, HV1, HV2⟩, HC⟩, Htk, Hct, ⟨Hr0, Hr1, Hr2⟩⟩, Hrc, Hcc⟩, Hcol, ⟨Hs0, Hs1, Hs2⟩⟩
  ihave HJ := (recs_slot m (c, f, 0)) $$ HR
  icases HJ with ⟨%ι₀, #HJ0⟩
  ihave HJ := (recs_slot m (c, f, 1)) $$ HR
  icases HJ with ⟨%ι₁, #HJ1⟩
  imod (Release.slot_release ES (Set.mem_univ ι₀) (slotAny_false (c, f, 0)) 0) $$ [Hr0 Hs0] with ⟨Hr0, #Hrel0⟩
  · isplitr; · iexact HJ0
    isplitl [Hr0] <;> iassumption
  imod (Release.slot_release ES (Set.mem_univ ι₁) (slotAny_false (c, f, 1)) 0) $$ [Hr1 Hs1] with ⟨Hr1, #Hrel1⟩
  · isplitr; · iexact HJ1
    isplitl [Hr1] <;> iassumption
  imodintro
  isplitr []
  swap
  · unfold relPay; isplitr <;> iassumption
  unfold flow0 flowI
  isplitr [Hs2]
  swap; · iexact Hs2
  isplitl [HS0 HS1 HS2 HV0 HV1 HV2]
  · unfold poss posS posR
    isplitl [HS2 HV0]
    · isplitl [HS2]
      · isplitl [HS2]; · iexact HS2
        iapply (recs_sc0 m c f 0); iexact HR
      · isplitl [HV0]; · iexact HV0
        iapply (recs_rc0 m c f 0); iexact HR
    isplitl [HS0 HV1]
    · isplitl [HS0]
      · isplitl [HS0]; · iexact HS0
        iapply (recs_sc0 m c f 1); iexact HR
      · isplitl [HV1]; · iexact HV1
        iapply (recs_rc0 m c f 1); iexact HR
    · isplitl [HS1]
      · isplitl [HS1]; · iexact HS1
        iapply (recs_sc0 m c f 2); iexact HR
      · isplitl [HV2]; · iexact HV2
        iapply (recs_rc0 m c f 2); iexact HR
  isplitl [Htk]; · iexact Htk
  isplitl [Hct]; · iexact Hct
  isplitl [Hrc]; · iexact Hrc
  isplitl [Hcc]; · iexact Hcc
  isplitl [HC]
  · unfold cpos
    iexists ∅
    isplitr
    · ipureintro; exact ⟨Finset.empty_subset _, Nat.zero_le _⟩
    isplitl [HC]; · iexact HC
    rw [bigSep_empty]; iempintro
  isplitl [Hr0 Hr1 Hr2]
  · unfold rd
    isplitl [Hr2]; · iexact Hr2
    isplitl [Hr0]; · iexact Hr0
    iexact Hr1
  iexact Hcol

/-! ## A flow at the body's end -/

theorem close_S (c : Dev nD) (f : Fin 4) (t : ℕ) (ht : 15 ≤ t) :
    iprop(recs m ∗ posS c f t) ⊢ iprop(|={Set.univ}=> semVal (sc c f t) 0) := by
  unfold posS
  iintro ⟨#HR, Hat, -⟩
  ihave HI := (recs_sc m c f t) $$ HR
  icases HI with ⟨%κ, #HI⟩
  iapply (Rounds.cell_close ER (Rd (F := F) m) (Set.mem_univ κ) (fun h => h) (R := t / 3) (fun r hr => later_send m c f t r (by omega))) $$ [Hat]
  isplitr; · iexact HI
  iexact Hat

theorem close_R (c : Dev nD) (f : Fin 4) (t : ℕ) (ht : 15 ≤ t) :
    iprop(recs m ∗ posR c f t) ⊢ iprop(|={Set.univ}=> semVal (rc c f t) 0) := by
  unfold posR
  iintro ⟨#HR, Hat, -⟩
  ihave HI := (recs_rc m c f t) $$ HR
  icases HI with ⟨%κ, #HI⟩
  iapply (Rounds.cell_close ER (Rd (F := F) m) (Set.mem_univ κ) (fun h => h) (R := t / 3) (fun r hr => later_recv m c f t r (by omega))) $$ [Hat]
  isplitr; · iexact HI
  iexact Hat

theorem close_C (c : Dev nD) (f : Fin 4) : iprop(recs m ∗ cpos c f 13) ⊢ iprop(|={Set.univ}=> semVal (cc c f) 0) := by
  unfold cpos
  iintro ⟨#HR, ⟨%T, %hT, Hat, -⟩⟩
  ihave HI := (recs_cc m c f) $$ HR
  icases HI with ⟨%κ, #HI⟩
  have hT' : T = Finset.range 13 := Finset.eq_of_subset_of_card_le hT.1 (by rw [Finset.card_range]; exact hT.2)
  imod (Rounds.fupd_skip ER (Rd (F := F) m) (κ := κ) (g := cc c f) (R := 0) (T := T) (by rw [duties_cred, hT']) (expect_cred m c f).symm (Set.mem_univ κ)) $$ [Hat] with ⟨Hat, -⟩
  · isplitr; · iexact HI
    iexact Hat
  iapply (Rounds.cell_close ER (Rd (F := F) m) (Set.mem_univ κ) (fun h => h) (fun r hr => later_cred m c f r hr)) $$ [Hat]
  isplitr; · iexact HI
  iexact Hat

theorem close_B (c : Dev nD) : iprop(recs m ∗ atPos ER (bc c) 1 ∅ 0) ⊢ iprop(|={Set.univ}=> semVal (bc c) 0) := by
  iintro ⟨#HR, Hat⟩
  ihave HI := (recs_bc m c) $$ HR
  icases HI with ⟨%κ, #HI⟩
  iapply (Rounds.cell_close ER (Rd (F := F) m) (Set.mem_univ κ) (fun h => h) (fun r hr => later_bar m c r hr)) $$ [Hat]
  isplitr; · iexact HI
  iexact Hat

theorem flow_out (c : Dev nD) (f : Fin 4) :
    iprop(recs m ∗ flowE m c f)
      ⊢ iprop(|={Set.univ}=> (perFlow (fun s => (semVal ((c : Thread nD τ), s) 0 : sProp 𝕄)) f
          ∗ bigSep Finset.univ (fun k : Fin 3 => slotAny (F := F) (c, f, k)) ∗ colHas c f (outv m f c))) := by
  unfold flowE poss perFlow
  rw [bigSep_three, bigSep_three, bigSep_three]
  iintro ⟨#HR, ⟨⟨HS0, HV0⟩, ⟨HS1, HV1⟩, HS2, HV2⟩, HC, ⟨Ha0, Ha1, Ha2⟩, Hcol⟩
  imod (close_S m c f 15 (by omega)) $$ [HS0] with HS0
  · isplitr; · iexact HR
    iexact HS0
  imod (close_S m c f (15 + 1) (by omega)) $$ [HS1] with HS1
  · isplitr; · iexact HR
    iexact HS1
  imod (close_S m c f (15 + 2) (by omega)) $$ [HS2] with HS2
  · isplitr; · iexact HR
    iexact HS2
  imod (close_R m c f 15 (by omega)) $$ [HV0] with HV0
  · isplitr; · iexact HR
    iexact HV0
  imod (close_R m c f (15 + 1) (by omega)) $$ [HV1] with HV1
  · isplitr; · iexact HR
    iexact HV1
  imod (close_R m c f (15 + 2) (by omega)) $$ [HV2] with HV2
  · isplitr; · iexact HR
    iexact HV2
  imod (close_C m c f) $$ [HC] with HC
  · isplitr; · iexact HR
    iexact HC
  imodintro
  isplitl [HS0 HS1 HS2 HV0 HV1 HV2 HC]
  · isplitl [HS0 HS1 HS2]
    · isplitl [HS1]; · iexact HS1
      isplitl [HS2]; · iexact HS2
      iexact HS0
    isplitl [HV0 HV1 HV2]
    · isplitl [HV0]; · iexact HV0
      isplitl [HV1]; · iexact HV1
      iexact HV2
    iexact HC
  isplitl [Ha0 Ha1 Ha2]
  · isplitl [Ha0]; · iexact Ha0
    isplitl [Ha1]; · iexact Ha1
    iexact Ha2
  iexact Hcol

end Cert.RS

end
-- ==== Proof.Oblig.lean ====
/-
# The body as the launch asks for it

What each device holds before and after the kernel, and the body's run between the two.
-/
module

public import proofs.«01_k».proof.Proof.Own

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- What device `c` owes at launch: all its transfers, all its credits, its neighbours' barriers. -/
def O₀ (c : Dev nD) : CellTallies nD τ sig ℕ := ∑ f, owed0 c f + tallyAt (bc (rt c)) 0 1 + tallyAt (bc (lf c)) 0 1

theorem above_O₀ (c : Dev nD) : Above 0 (O₀ c) :=
  ((Above.sum fun f _ => (above_OR (by omega)).add (above_OC (by omega))).add
    (Above.tally (mem_L _ _ (by omega)) (by rw [lv_bar]; omega))).add (Above.tally (mem_L _ _ (by omega)) (by rw [lv_bar]; omega))

/-- What the launch deals device `c` besides the records and the units. -/
def dealt (c : Dev nD) : sProp 𝕄 :=
  iprop(bigSep Finset.univ (gF (F := F) c) ∗ atPos ER (bc c) 0 ∅ 0 ∗ dutyTok ER (bc (lf c)) 0 0 ∗ dutyTok ER (bc (rt c)) 0 1)
/-- The units device `c` waits for. -/
def units (c : Dev nD) : sProp 𝕄 := iprop(bigSep Finset.univ (cF (F := F) c) ∗ cred (tallyAt (bc c) 0 2))

def start (c : Dev nD) : sProp 𝕄 := iprop(recs m ∗ dealt c ∗ units c)

def Φ₀ (c : Dev nD) : sProp 𝕄 := iprop(start m c ∗ scr c)
/-- After the body: every cell of the device at zero, the communication buffer whole. -/
def Φ₁ (c : Dev nD) : sProp 𝕄 :=
  iprop(bigSep Finset.univ (perFlow (fun s => (semVal ((c : Thread nD τ), s) 0 : sProp 𝕄))) ∗ semVal (bc c) 0 ∗ scr c)

def dats (_ : Fin 1) (c : Dev nD) : Dat τ (Elt F) ℕ ℕ UU ℕ cfg0 c where
  A w := m ((cfg0.win w).arr.view.loc (c : Thread nD τ))
  after w _ := match w with
    | ⟨0, _⟩ => xv m c
    | ⟨1, _⟩ => wv m c
    | ⟨2, _⟩ => outAll m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## From the launch's pieces to the body's start -/

theorem enter (c : Dev nD) (X : FVec F S512x4096 .f32) :
    iprop(start m c ∗ scr c ∗ xwPts m c ∗ owns (c : Thread nD τ) oM fullShare X ∗ debt c (O₀ c)) ⊢ iprop(|={Set.univ}=> Start m c) := by
  have hF : iprop(recs m ∗ bigSep Finset.univ (fun f => iprop((gF (F := F) c f ∗ cF c f) ∗ colAny c f ∗ bigSep Finset.univ (fun k : Fin 3 => slotAny (c, f, k)))))
      ⊢ iprop(|={Set.univ}=> bigSep Finset.univ (fun f => iprop(flow0 (F := F) c f ∗ relPay c f))) :=
    (bigSep_with_persistent fun f _ => flow_in m c f).trans (bigSep_fupd _ _)
  rw [bigSep_sep', bigSep_sep', bigSep_sep', bigSep_sep'] at hF
  unfold start dealt units
  iintro ⟨⟨#HR, ⟨Hg, Hb, Ht0, Ht1⟩, ⟨Hc, Hcb⟩⟩, Hs, Hx, Ho, HO⟩
  ihave Hs := (scr_split c) $$ Hs
  ihave Ho := (cols_split c X) $$ Ho
  imod hF $$ [Hg Hc Hs Ho] with ⟨Hf, Hrel⟩
  · isplitr; · iexact HR
    isplitl [Hg Hc]
    · isplitl [Hg] <;> iassumption
    isplitl [Ho] <;> iassumption
  imodintro
  unfold Start bar0
  isplitr; · iexact HR
  isplitl [Hx]; · iexact Hx
  isplitl [Hf]; · iexact Hf
  isplitl [Hrel]
  · rw [← bigSep_four (relPay c)]; iexact Hrel
  isplitl [Ht0]; · iexact Ht0
  isplitl [Ht1]; · iexact Ht1
  isplitl [Hb Hcb]
  · isplitl [Hb] <;> iassumption
  iexact HO

/-! ## From the body's end to the launch's pieces -/

theorem stage_60 (f : Fin 4) : stage 60 f = 15 := by unfold stage; omega

theorem leave (c : Dev nD) :
    iprop(Sig m c 60 ∗ atPos ER (bc c) 1 ∅ 0) ⊢ iprop(|={Set.univ}=> (Φ₁ c ∗ xwPts m c ∗ owns (c : Thread nD τ) oM fullShare (outAll m c) ∗ debt c 0)) := by
  have hF : iprop(recs m ∗ bigSep Finset.univ (flowE m c))
      ⊢ iprop(|={Set.univ}=> bigSep Finset.univ (fun f => iprop(perFlow (fun s => (semVal ((c : Thread nD τ), s) 0 : sProp 𝕄)) f
          ∗ bigSep Finset.univ (fun k : Fin 3 => slotAny (F := F) (c, f, k)) ∗ colHas c f (outv m f c)))) :=
    (bigSep_with_persistent fun f _ => flow_out m c f).trans (bigSep_fupd _ _)
  rw [bigSep_sep', bigSep_sep'] at hF
  have hO : ∑ f, owed c f (stage 60 f) = 0 := Finset.sum_eq_zero fun f _ => by
    rw [stage_60]; unfold owed; rw [OR_end _ _ _ (by omega), OC_end _ _ _ (by omega), add_zero]
  unfold Sig
  rw [hO, bigSep_congr (Ψ := flowE m c) fun f _ => by rw [stage_60, flowAt_E]]
  iintro ⟨⟨#HR, Hx, Hf, HO⟩, Hb⟩
  imod hF $$ [Hf] with ⟨Hz, Hs, Hc⟩
  · isplitr; · iexact HR
    iexact Hf
  imod (close_B m c) $$ [Hb] with Hb
  · isplitr; · iexact HR
    iexact Hb
  imodintro
  unfold Φ₁
  isplitl [Hz Hb Hs]
  · isplitl [Hz]; · iexact Hz
    isplitl [Hb]; · iexact Hb
    iapply (scr_join c); iexact Hs
  isplitl [Hx]; · iexact Hx
  isplitl [Hc]; · iapply (cols_join m c); iexact Hc
  iexact HO

/-! ## The obligation -/

theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem xw_intro (c : Dev nD) : iprop(owns (c : Thread nD τ) xM fullShare (xv m c) ∗ owns (c : Thread nD τ) wM fullShare (wv m c)) ⊢ xwPts (F := F) m c := by
  rw [owns_whole_eq c cc0_stg0_0, owns_whole_eq c cc0_stg1_0]
  unfold xwPts
  iintro ⟨⟨%f, %hf, H⟩, ⟨%g, %hg, H'⟩⟩
  subst hf; subst hg
  isplitl [H] <;> iassumption

theorem xw_elim (c : Dev nD) : xwPts (F := F) m c ⊢ iprop(owns (c : Thread nD τ) xM fullShare (xv m c) ∗ owns (c : Thread nD τ) wM fullShare (wv m c)) := by
  rw [owns_whole_eq c cc0_stg0_0, owns_whole_eq c cc0_stg1_0]
  unfold xwPts
  iintro ⟨H, H'⟩
  isplitl [H]
  · iexists _; isplitr; · (ipureintro; rfl)
    iexact H
  · iexists _; isplitr; · (ipureintro; rfl)
    iexact H'

theorem before_x (c : Dev nD) (d) : (dats m 0 c).before (0 : Fin 3) t0_0 d = xv m c := by
  unfold Dat.before; rw [if_pos (fetch0_0 t0_0)]; rfl
theorem before_w (c : Dev nD) (d) : (dats m 0 c).before (1 : Fin 3) t0_0 d = wv m c := by
  unfold Dat.before; rw [if_pos (fetch0_1 t0_0)]; rfl

/-- What the library's obligation asks of the body's end. -/
def post (c : Dev nD) : sProp 𝕄 :=
  iprop(Φ₁ c ∗ (dats m 0 c).owesAt 0 t0_0.succ
    ∗ owns (c : Thread nD τ) xM fullShare (xv m c) ∗ owns (c : Thread nD τ) wM fullShare (wv m c) ∗ owns (c : Thread nD τ) oM fullShare (outAll m c))

theorem post_intro (c : Dev nD) :
    iprop(Φ₁ c ∗ xwPts m c ∗ owns (c : Thread nD τ) oM fullShare (outAll m c) ∗ debt c 0) ⊢ post m c := by
  unfold post Dat.owesAt Pipeline.owesWithin debt
  iintro ⟨HΦ, Hx, Ho, ⟨%W', HO⟩⟩
  ihave Hx := (xw_elim m c) $$ Hx
  icases Hx with ⟨Hx, Hw⟩
  isplitl [HΦ]; · iexact HΦ
  isplitl [HO]
  · iexists W'
    isplitr; · ipureintro; exact fun _ _ => Or.inl trivial
    rw [show (dats m 0 c).owed t0_0.succ = 0 from rfl]; iexact HO
  isplitl [Hx]; · iexact Hx
  isplitl [Hw] <;> iassumption

theorem run_end (c : Dev nD) : iprop(Sig m c 60 ∗ rels c ∗ atPos ER (bc c) 1 ∅ 0 ∗ emp) ⊢ WP c (.ret PUnit.unit : Pr F PUnit) (fun _ => post m c) := by
  iintro ⟨HS, -, Hb, -⟩
  unfold WP
  rw [wp_ret]
  imod (leave m c) $$ [HS Hb] with H
  · isplitl [HS] <;> iassumption
  imodintro
  iapply (post_intro m c); iexact H

theorem run_post (c : Dev nD) : iprop(Start m c ∗ emp)
    ⊢ WP c (cc0_body xM (Memref.isWhole_whole _) wM (Memref.isWhole_whole _) oM (Memref.isWhole_whole _) sM (Memref.isWhole_whole _)
      cc0_scratch1 cc0_scratch2 cc0_scratch3) (fun _ => post m c) :=
  run_body m c iprop(emp) (fun _ => post m c) (run_end m c)

/-- What it gives at the body's start. -/
def pre (c : Dev nD) : sProp 𝕄 :=
  iprop(Φ₀ m c ∗ (dats m 0 c).owesAt 0 t0_0.castSucc
      ∗ (∃ d, owns (c : Thread nD τ) xM fullShare ((dats m 0 c).before (0 : Fin 3) t0_0 d))
      ∗ (∃ d, owns (c : Thread nD τ) wM fullShare ((dats m 0 c).before (1 : Fin 3) t0_0 d))
      ∗ (∃ d, owns (c : Thread nD τ) oM fullShare ((dats m 0 c).before (2 : Fin 3) t0_0 d)))

theorem pre_elim (c : Dev nD) : pre m c ⊢ iprop(|={Set.univ}=> (Start m c ∗ emp)) := by
  unfold pre Φ₀ Dat.owesAt Pipeline.owesWithin
  iintro ⟨⟨Hs, Hscr⟩, ⟨%W, %hW, HO⟩, ⟨%d0, Hx⟩, ⟨%d1, Hw⟩, ⟨%d2, Ho⟩⟩
  rw [before_x, before_w, show (dats m 0 c).owed t0_0.castSucc = O₀ c from rfl]
  ihave Hx := (xw_intro m c) $$ [Hx Hw]
  · isplitl [Hx] <;> iassumption
  imod (enter m c _) $$ [Hs Hscr Hx Ho HO] with HS
  · isplitl [Hs]; · iexact Hs
    isplitl [Hscr]; · iexact Hscr
    isplitl [Hx]; · iexact Hx
    isplitl [Ho]; · iexact Ho
    unfold debt; iexists W; iexact HO
  imodintro
  isplitl [HS]; · iexact HS
  iempintro

theorem run_pre (c : Dev nD) (p : Pr F PUnit) (h : iprop(Start m c ∗ emp) ⊢ WP c p (fun _ => post m c)) : pre m c ⊢ WP c p (fun _ => post m c) := by
  iintro H
  imod (pre_elim m c) $$ H with H
  iapply h; iexact H

set_option maxRecDepth 100000 in
/-- The library's body obligation on device `c`. -/
theorem body_obligation (c : Dev nD) : BodyObligation (dats (F := F) m 0 c) (defs₀ (F := F)) 𝒱₀ 0 Set.univ := fun t => by
  rw [fin_N0 t]
  rw [bigSep_W0, bigSep_W0]
  show pre m c ⊢ wp frame (wpE (defs₀ (F := F)) 𝒱₀ (c : Thread nD τ) none) Set.univ
    (cc0_body xM (Memref.isWhole_whole _) wM (Memref.isWhole_whole _) oM (Memref.isWhole_whole _) sM (Memref.isWhole_whole _)
      cc0_scratch1 cc0_scratch2 cc0_scratch3) (fun _ => post m c)
  exact run_pre m c _ (run_post m c)

end Cert.RS

end
-- ==== Proof.Deal.lean ====
/-
# What the launch deals

The launch's element of the ghost state: every cell at its first round, a token for each duty, the slots' counts. A
token starts with its cell and goes to the device that pays the duty: a receive's to the device received from, a
credit's to the device sent to, a barrier's to the two neighbours.
-/
module

public import proofs.«01_k».proof.Proof.Oblig

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slot slotInv USlots initSlots)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Cells and tokens -/

theorem csem_injective : Function.Injective csem := by
  intro i j h
  have h0 : ∀ i j : Fin 29, csem i = csem j → i = j := by decide +kernel
  exact h0 i j h

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

def ringCells : Finset (GSem nD τ sig) := Finset.univ.map ⟨kcell, kcell_injective⟩

/-- A duty's token: its cell, round and number. -/
abbrev Tok : Type := GSem nD τ sig × ℕ × ℕ
def tokS (p : Dev nD × Fin 4 × ℕ) : Tok := (sc p.1 p.2.1 p.2.2, p.2.2 / 3, 0)
def tokR (p : Dev nD × Fin 4 × ℕ) : Tok := (rc p.1 p.2.1 p.2.2, p.2.2 / 3, 0)
def tokC (p : Dev nD × Fin 4 × ℕ) : Tok := (cc p.1 p.2.1, 0, p.2.2)
def tokB (p : Dev nD × Fin 2) : Tok := (bc p.1, 0, p.2.val)

theorem tok_parts {x y : Tok} (h : x = y) : x.1.1.1 = y.1.1.1 ∧ kind x.1.2 = kind y.1.2 ∧ x.2.1 = y.2.1 ∧ x.2.2 = y.2.2 := by
  subst h; exact ⟨rfl, rfl, rfl, rfl⟩

theorem tokS_injective : Function.Injective tokS := by
  rintro ⟨c, f, t⟩ ⟨c', f', t'⟩ h
  obtain ⟨h1, h2, h3, -⟩ := tok_parts h
  have h1 : c = c' := h1
  have h3 : t / 3 = t' / 3 := h3
  have h2 : kind (.dma (sendS f (sl (t + 2)))) = kind (.dma (sendS f' (sl (t' + 2)))) := h2
  rw [kind_send, kind_send] at h2
  injection h2 with hf hk
  have hk : (t + 2) % 3 = (t' + 2) % 3 := congrArg Fin.val hk
  rw [h1, hf, show t = t' by omega]

theorem tokR_injective : Function.Injective tokR := by
  rintro ⟨c, f, t⟩ ⟨c', f', t'⟩ h
  obtain ⟨h1, h2, h3, -⟩ := tok_parts h
  have h1 : c = c' := h1
  have h3 : t / 3 = t' / 3 := h3
  have h2 : kind (.dma (recvS f (sl t))) = kind (.dma (recvS f' (sl t'))) := h2
  rw [kind_recv, kind_recv] at h2
  injection h2 with hf hk
  have hk : t % 3 = t' % 3 := congrArg Fin.val hk
  rw [h1, hf, show t = t' by omega]

theorem tokC_injective : Function.Injective tokC := by
  rintro ⟨c, f, t⟩ ⟨c', f', t'⟩ h
  obtain ⟨h1, h2, -, h3⟩ := tok_parts h
  have h1 : c = c' := h1
  have h3 : t = t' := h3
  have h2 : kind (.reg (credS f)) = kind (.reg (credS f')) := h2
  rw [kind_cred, kind_cred] at h2
  injection h2 with hf
  rw [h1, hf, h3]

theorem tokB_injective : Function.Injective tokB := by
  rintro ⟨c, d⟩ ⟨c', d'⟩ h
  obtain ⟨h1, -, -, h3⟩ := tok_parts h
  have h1 : c = c' := h1
  have h3 : d.val = d'.val := h3
  rw [h1, Fin.ext h3]

/-- Which sort of cell a token is for. -/
def sort (x : Tok) : ℕ := match kind x.1.2 with
  | .send _ _ => 0 | .recv _ _ => 1 | .cred _ => 2 | _ => 3

theorem sort_S (p) : sort (tokS p) = 0 := by unfold sort tokS; rw [kind_send]
theorem sort_R (p) : sort (tokR p) = 1 := by unfold sort tokR; rw [kind_recv]
theorem sort_C (p) : sort (tokC p) = 2 := by unfold sort tokC; rw [kind_cred]
theorem sort_B (p) : sort (tokB p) = 3 := by unfold sort tokB; rw [kind_bar]

/-- The numbers of `n` duties on every device in every flow. -/
abbrev nums (n : ℕ) : Finset (Dev nD × Fin 4 × ℕ) := Finset.univ ×ˢ (Finset.univ ×ˢ Finset.Ico 0 n)

def toksS : Finset Tok := (nums 15).map ⟨tokS, tokS_injective⟩
def toksR : Finset Tok := (nums 15).map ⟨tokR, tokR_injective⟩
def toksC : Finset Tok := (nums 13).map ⟨tokC, tokC_injective⟩
def toksB : Finset Tok := Finset.univ.map ⟨tokB, tokB_injective⟩
def ringToks : Finset Tok := (toksS ∪ toksR) ∪ (toksC ∪ toksB)

theorem sort_of_S {x : Tok} (h : x ∈ toksS) : sort x = 0 := by
  obtain ⟨p, -, rfl⟩ := Finset.mem_map.mp h; exact sort_S p
theorem sort_of_R {x : Tok} (h : x ∈ toksR) : sort x = 1 := by
  obtain ⟨p, -, rfl⟩ := Finset.mem_map.mp h; exact sort_R p
theorem sort_of_C {x : Tok} (h : x ∈ toksC) : sort x = 2 := by
  obtain ⟨p, -, rfl⟩ := Finset.mem_map.mp h; exact sort_C p
theorem sort_of_B {x : Tok} (h : x ∈ toksB) : sort x = 3 := by
  obtain ⟨p, -, rfl⟩ := Finset.mem_map.mp h; exact sort_B p

theorem bigSep_ringToks (Φ : Tok → sProp 𝕄) :
    bigSep ringToks Φ = iprop((bigSep toksS Φ ∗ bigSep toksR Φ) ∗ (bigSep toksC Φ ∗ bigSep toksB Φ)) := by
  have h1 : Disjoint toksS toksR := Finset.disjoint_left.mpr fun x h h' => by
    have := sort_of_S h; have := sort_of_R h'; omega
  have h2 : Disjoint toksC toksB := Finset.disjoint_left.mpr fun x h h' => by
    have := sort_of_C h; have := sort_of_B h'; omega
  have h3 : Disjoint (toksS ∪ toksR) (toksC ∪ toksB) := Finset.disjoint_left.mpr fun x h h' => by
    rcases Finset.mem_union.mp h with h | h <;> rcases Finset.mem_union.mp h' with h' | h' <;>
      first
      | (have := sort_of_S h; have := sort_of_C h'; omega)
      | (have := sort_of_S h; have := sort_of_B h'; omega)
      | (have := sort_of_R h; have := sort_of_C h'; omega)
      | (have := sort_of_R h; have := sort_of_B h'; omega)
  unfold ringToks
  rw [bigSep_union h3, bigSep_union h1, bigSep_union h2]; rfl

/-- A statement for each pair, first components outermost. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  refine Finset.induction_on s (by rw [Finset.empty_product, bigSep_empty, bigSep_empty]) fun i s hi ih => ?_
  have e : insert i s ×ˢ t = t.map ⟨Prod.mk i, fun _ _ h => (Prod.mk.inj h).2⟩ ∪ s ×ˢ t := by
    ext ⟨a, b⟩
    rw [Finset.mem_product, Finset.mem_union, Finset.mem_map, Finset.mem_product, Finset.mem_insert]
    constructor
    · rintro ⟨h | h, hb⟩
      · exact .inl ⟨b, hb, by rw [show a = i from h]; rfl⟩
      · exact .inr ⟨h, hb⟩
    · rintro (⟨b', hb, h⟩ | ⟨h, hb⟩)
      · have h := Prod.mk.inj h
        exact ⟨.inl h.1.symm, h.2 ▸ hb⟩
      · exact ⟨.inr h, hb⟩
  have hd : Disjoint (t.map ⟨Prod.mk i, fun _ _ h => (Prod.mk.inj h).2⟩) (s ×ˢ t) := Finset.disjoint_left.mpr fun x h h' => by
    obtain ⟨b, -, rfl⟩ := Finset.mem_map.mp h
    exact hi (Finset.mem_product.mp h').1
  rw [e, bigSep_union hd, bigSep_map, ih, bigSep_insert hi]
  rfl

theorem bigSep_nums (n : ℕ) (Φ : Dev nD × Fin 4 × ℕ → sProp 𝕄) :
    bigSep (nums n) Φ = bigSep Finset.univ fun c => bigSep Finset.univ fun f => bigSep (Finset.Ico 0 n) fun t => Φ (c, f, t) := by
  rw [bigSep_pairs]
  exact bigSep_congr fun c _ => bigSep_pairs _ _ _

/-! ## Dealt around the ring -/

def goTo (f : Fin 4) : Dev nD ≃ Dev nD := ⟨tgt f, up f, up_tgt f, tgt_up f⟩
def goRight : Dev nD ≃ Dev nD := ⟨rt, lf, lf_rt, rt_lf⟩

/-- In each flow, each device's share goes to the device that sends to it, -/
theorem to_sender (Φ : Dev nD → Fin 4 → sProp 𝕄) :
    (bigSep Finset.univ fun c => bigSep Finset.univ fun f => Φ c f) = bigSep Finset.univ fun c => bigSep Finset.univ fun f => Φ (tgt f c) f := by
  rw [BI.bigSep_univ_comm, BI.bigSep_univ_comm (fun c f => Φ (tgt f c) f)]
  exact bigSep_congr fun f _ => bigSep_univ_equiv (goTo f) fun c => Φ c f
/-- or to the one it sends to. -/
theorem to_receiver (Φ : Dev nD → Fin 4 → sProp 𝕄) :
    (bigSep Finset.univ fun c => bigSep Finset.univ fun f => Φ c f) = bigSep Finset.univ fun c => bigSep Finset.univ fun f => Φ (up f c) f := by
  rw [BI.bigSep_univ_comm, BI.bigSep_univ_comm (fun c f => Φ (up f c) f)]
  exact bigSep_congr fun f _ => bigSep_univ_equiv (goTo f).symm fun c => Φ c f

/-- A slot's writes are the transfers into it. -/
def writeNo : Fin 3 × ℕ ↪ ℕ := ⟨fun p => 3 * p.2 + p.1.val, fun ⟨k, r⟩ ⟨k', r'⟩ h => by
  have h : 3 * r + k.val = 3 * r' + k'.val := h
  exact Prod.ext (Fin.ext (by show k.val = k'.val; omega)) (by show r = r'; omega)⟩

theorem writes_eq : Finset.Ico 0 15 = ((Finset.univ : Finset (Fin 3)) ×ˢ Finset.range 5).map writeNo := by decide +kernel

theorem bigSep_writes (Φ : Fin 3 → ℕ → sProp 𝕄) :
    (bigSep Finset.univ fun k => bigSep (Finset.range 5) fun r => Φ k (r + 1)) = bigSep (Finset.Ico 0 15) fun t => Φ (sl t) (t / 3 + 1) := by
  rw [writes_eq, bigSep_map, bigSep_pairs]
  refine bigSep_congr fun k _ => bigSep_congr fun r _ => ?_
  have h1 : sl (writeNo (k, r)) = k := Fin.ext (by show (3 * r + k.val) % 3 = k.val; omega)
  have h2 : writeNo (k, r) / 3 = r := by show (3 * r + k.val) / 3 = r; omega
  rw [h1, h2]

/-! ## The launch's element -/

def u₀ : UU :=
  (initOf (Pipeline.cells cfgs cellOf_inj) (Pipeline.launchToks cfgs cellOf_inj), (initOf ringCells ringToks, initSlots Finset.univ 5))

/-- That every cell's first round is reached, and every slot's invariant. -/
def known : sProp 𝕄 :=
  iprop(bigSep Finset.univ (fun p : Dev nD × Fin 29 => (reached ER (kcell p) 0 : sProp 𝕄))
    ∗ bigSep Finset.univ (fun q : Key => iprop(∃ ι : ℕ, slotInv ES ι q (slotAny (F := F) q))))
instance known_persistent : BI.Persistent (known (F := F)) := by unfold known; infer_instance

/-- What the element deals device `c`, -/
def G (c : Dev nD) : sProp 𝕄 :=
  iprop((bigSep Finset.univ fun k : Fin 29 => roundState ER (Rd (F := F) m) (kcell (c, k)) 0) ∗ known ∗ dealt c)
/-- and what it holds once every cell's invariant is made. -/
def G' (c : Dev nD) : sProp 𝕄 :=
  iprop((bigSep Finset.univ (fun p : Dev nD × Fin 29 => iprop(∃ κ : ℕ, cellInv ER (Rd (F := F) m) κ (kcell p))) ∗ known) ∗ dealt c)

theorem bigSep_cells (Φ : GSem nD τ sig → sProp 𝕄) :
    bigSep ringCells Φ = bigSep Finset.univ fun p : Dev nD × Fin 29 => Φ (kcell p) := by
  unfold ringCells; rw [bigSep_map]; rfl

theorem positions (Φ : GSem nD τ sig → sProp 𝕄) :
    (bigSep Finset.univ fun p : Dev nD × Fin 29 => Φ (kcell p))
      = iprop((bigSep Finset.univ fun c : Dev nD => bigSep Finset.univ (perFlow fun s => Φ ((c : Thread nD τ), s))) ∗ bigSep Finset.univ fun c : Dev nD => Φ (bc c)) := by
  rw [bigSep_univ_prod, ← bigSep_sep']
  refine bigSep_congr fun c _ => ?_
  rw [← own_split, ← cells_split (fun s => Φ ((c : Thread nD τ), s))]; rfl

theorem bigSep_two (Φ : Fin 2 → sProp 𝕄) : bigSep Finset.univ Φ = iprop(Φ 0 ∗ Φ 1) := bigSep_univ_eq_bigSepL [0, 1] (by decide) (by decide) Φ

theorem barToks : bigSep toksB (fun x => (dutyTok ER x.1 x.2.1 x.2.2 : sProp 𝕄))
    = iprop((bigSep Finset.univ fun c => dutyTok ER (bc (lf c)) 0 0) ∗ bigSep Finset.univ fun c => dutyTok ER (bc (rt c)) 0 1) := by
  unfold toksB
  rw [bigSep_map, bigSep_univ_prod, bigSep_congr (fun c _ => bigSep_two _), bigSep_sep']
  exact sep_eq (bigSep_univ_equiv goRight.symm fun c => (dutyTok ER (bc c) 0 0 : sProp 𝕄)) (bigSep_univ_equiv goRight fun c => (dutyTok ER (bc c) 0 1 : sProp 𝕄))

theorem sendToks : bigSep toksS (fun x => (dutyTok ER x.1 x.2.1 x.2.2 : sProp 𝕄))
    = bigSep Finset.univ fun c => bigSep Finset.univ fun f => bigSep (Finset.Ico 0 15) fun t => dutyTok ER (sc c f t) (t / 3) 0 := by
  unfold toksS; rw [bigSep_map, bigSep_nums]; rfl
theorem recvToks : bigSep toksR (fun x => (dutyTok ER x.1 x.2.1 x.2.2 : sProp 𝕄))
    = bigSep Finset.univ fun c => bigSep Finset.univ fun f => bigSep (Finset.Ico 0 15) fun t => dutyTok ER (rc (tgt f c) f t) (t / 3) 0 := by
  unfold toksR; rw [bigSep_map, bigSep_nums]
  exact to_sender fun c f => bigSep (Finset.Ico 0 15) fun t => (dutyTok ER (rc c f t) (t / 3) 0 : sProp 𝕄)
theorem credToks : bigSep toksC (fun x => (dutyTok ER x.1 x.2.1 x.2.2 : sProp 𝕄))
    = bigSep Finset.univ fun c => bigSep Finset.univ fun f => bigSep (Finset.Ico 0 13) (ctok c f) := by
  unfold toksC ctok; rw [bigSep_map, bigSep_nums]
  exact to_receiver fun c f => bigSep (Finset.Ico 0 13) fun r => (dutyTok ER (cc c f) 0 r : sProp 𝕄)
theorem writeToks : (bigSep ((Finset.univ : Finset Key) ×ˢ Finset.range 5) fun x => (writeTok ES x.1 (x.2 + 1) : sProp 𝕄))
    = bigSep Finset.univ fun c => bigSep Finset.univ fun f => bigSep (Finset.Ico 0 15) fun t => writeTok ES ((tgt f c, f, sl t) : Key) (t / 3 + 1) := by
  rw [bigSep_pairs, bigSep_univ_prod, bigSep_congr (fun c _ => bigSep_univ_prod _),
    bigSep_congr (fun c _ => bigSep_congr fun f _ => bigSep_writes fun k r => (writeTok ES ((c, f, k) : Key) r : sProp 𝕄))]
  exact to_sender fun c f => bigSep (Finset.Ico 0 15) fun t => (writeTok ES ((c, f, sl t) : Key) (t / 3 + 1) : sProp 𝕄)

theorem readers : (bigSep (Finset.univ : Finset Key) fun q => (readerAt ES q 0 : sProp 𝕄))
    = bigSep Finset.univ fun c => bigSep Finset.univ fun f => bigSep Finset.univ fun k => readerAt ES ((c, f, k) : Key) 0 := by
  rw [bigSep_univ_prod]; exact bigSep_congr fun c _ => bigSep_univ_prod _

/-- The pieces each device is dealt, together. -/
theorem dealt_all : bigSep Finset.univ (dealt (F := F))
    = iprop(((bigSep Finset.univ fun c : Dev nD => bigSep Finset.univ (perFlow fun s => (atPos ER ((c : Thread nD τ), s) 0 ∅ 0 : sProp 𝕄)))
          ∗ ((bigSep Finset.univ fun c => bigSep Finset.univ fun f => bigSep (Finset.Ico 0 15) fun t => dutyTok ER (sc c f t) (t / 3) 0)
            ∗ (bigSep Finset.univ fun c => bigSep Finset.univ fun f => bigSep (Finset.Ico 0 15) fun t => dutyTok ER (rc (tgt f c) f t) (t / 3) 0)
            ∗ (bigSep Finset.univ fun c => bigSep Finset.univ fun f => bigSep (Finset.Ico 0 15) fun t => writeTok ES ((tgt f c, f, sl t) : Key) (t / 3 + 1)))
          ∗ (bigSep Finset.univ fun c => bigSep Finset.univ fun f => bigSep (Finset.Ico 0 13) (ctok c f))
          ∗ (bigSep Finset.univ fun c => bigSep Finset.univ fun f => bigSep Finset.univ fun k => readerAt ES ((c, f, k) : Key) 0))
        ∗ (bigSep Finset.univ fun c => atPos ER (bc c) 0 ∅ 0) ∗ (bigSep Finset.univ fun c => dutyTok ER (bc (lf c)) 0 0)
        ∗ bigSep Finset.univ fun c => dutyTok ER (bc (rt c)) 0 1) := by
  have h (c : Dev nD) (f : Fin 4) : bigSep (Finset.Ico 0 15) (toks (F := F) c f)
      = iprop((bigSep (Finset.Ico 0 15) fun t => dutyTok ER (sc c f t) (t / 3) 0) ∗ (bigSep (Finset.Ico 0 15) fun t => dutyTok ER (rc (tgt f c) f t) (t / 3) 0)
          ∗ bigSep (Finset.Ico 0 15) fun t => writeTok ES ((tgt f c, f, sl t) : Key) (t / 3 + 1)) := by
    unfold toks; rw [bigSep_sep', bigSep_sep']
  unfold dealt gF
  simp only [h, bigSep_sep']

theorem fund_cells : BI.own (ER (F := F) (initOf ringCells ringToks))
    ⊢ (|==> ((bigSep Finset.univ fun c : Dev nD => bigSep Finset.univ fun k : Fin 29 => roundState ER (Rd (F := F) m) (kcell (c, k)) 0)
      ∗ (bigSep Finset.univ fun p : Dev nD × Fin 29 => reached ER (kcell p) 0)
      ∗ ((bigSep Finset.univ fun c : Dev nD => bigSep Finset.univ (perFlow fun s => (atPos ER ((c : Thread nD τ), s) 0 ∅ 0 : sProp 𝕄))) ∗ bigSep Finset.univ fun c : Dev nD => atPos ER (bc c) 0 ∅ 0)
      ∗ (bigSep toksS (fun x => (dutyTok ER x.1 x.2.1 x.2.2 : sProp 𝕄)) ∗ bigSep toksR (fun x => (dutyTok ER x.1 x.2.1 x.2.2 : sProp 𝕄)))
      ∗ bigSep toksC (fun x => (dutyTok ER x.1 x.2.1 x.2.2 : sProp 𝕄)) ∗ bigSep toksB (fun x => (dutyTok ER x.1 x.2.1 x.2.2 : sProp 𝕄))) : sProp 𝕄) := by
  have h1 : bigSep ringCells (fun g => roundState ER (Rd (F := F) m) g 0)
      = bigSep Finset.univ fun c : Dev nD => bigSep Finset.univ fun k : Fin 29 => roundState ER (Rd (F := F) m) (kcell (c, k)) 0 := by
    rw [bigSep_cells, bigSep_univ_prod]
  have h2 : bigSep ringCells (fun g => (reached ER g 0 : sProp 𝕄)) = bigSep Finset.univ fun p : Dev nD × Fin 29 => reached ER (kcell p) 0 := bigSep_cells _
  have h3 : bigSep ringCells (fun g => (atPos ER g 0 ∅ 0 : sProp 𝕄))
      = iprop((bigSep Finset.univ fun c : Dev nD => bigSep Finset.univ (perFlow fun s => (atPos ER ((c : Thread nD τ), s) 0 ∅ 0 : sProp 𝕄))) ∗ bigSep Finset.univ fun c : Dev nD => atPos ER (bc c) 0 ∅ 0) := by
    rw [bigSep_cells]; exact positions fun g => (atPos ER g 0 ∅ 0 : sProp 𝕄)
  have h4 := bigSep_ringToks (F := F) fun x => dutyTok ER x.1 x.2.1 x.2.2
  have h := Rounds.fund (ER (F := F)) (Rd (F := F) m) ringCells ringToks
  rw [h1, h2, h3, h4] at h
  exact h

theorem fund_slots : BI.own (ES (F := F) (initSlots Finset.univ 5))
    ⊢ (|={Set.univ}=> (bigSep Finset.univ (fun q : Key => iprop(∃ ι : ℕ, slotInv ES ι q (slotAny (F := F) q)))
      ∗ (bigSep Finset.univ fun c => bigSep Finset.univ fun f => bigSep Finset.univ fun k => readerAt ES ((c, f, k) : Key) 0)
      ∗ bigSep Finset.univ fun c => bigSep Finset.univ fun f => bigSep (Finset.Ico 0 15) fun t => writeTok ES ((tgt f c, f, sl t) : Key) (t / 3 + 1)) : sProp 𝕄) := by
  have h := Release.slots_init (ES (F := F)) (Finset.univ : Finset Key) 5 (slotAny (F := F)) (Es := Set.univ)
  rw [writeToks, readers] at h
  have hinv (ιs : Key → ℕ) : bigSep Finset.univ (fun q : Key => slotInv ES (ιs q) q (slotAny (F := F) q)) ⊢ bigSep Finset.univ (fun q : Key => iprop(∃ ι : ℕ, slotInv ES ι q (slotAny (F := F) q))) :=
    bigSep_mono fun q _ => by
      have h1 : slotInv ES (ιs q) q (slotAny (F := F) q) ⊢ iprop(∃ ι : ℕ, slotInv ES ι q (slotAny (F := F) q)) := by iintro H; iexists (ιs q); iexact H
      exact h1
  iintro H
  imod h $$ H with ⟨%ιs, -, Hinv, Hrd, Hwt⟩
  imodintro
  isplitl [Hinv]; · iapply (hinv ιs); iexact Hinv
  isplitl [Hrd] <;> iassumption

theorem deal_all : iprop(known (F := F) ∗ (bigSep Finset.univ fun c : Dev nD => bigSep Finset.univ fun k : Fin 29 => roundState ER (Rd (F := F) m) (kcell (c, k)) 0)
    ∗ bigSep Finset.univ (dealt (F := F))) ⊢ bigSep Finset.univ (G (F := F) m) := by
  have hd : iprop(known (F := F) ∗ bigSep Finset.univ fun c : Dev nD => iprop((bigSep Finset.univ fun k : Fin 29 => roundState ER (Rd (F := F) m) (kcell (c, k)) 0) ∗ dealt c))
      ⊢ bigSep Finset.univ (G (F := F) m) := bigSep_with_persistent fun c _ => by
    unfold G; iintro ⟨#HK, Hs, Hd⟩
    isplitl [Hs]; · iexact Hs
    isplitr; · iexact HK
    iexact Hd
  rw [bigSep_sep'] at hd
  exact hd

theorem fund_ring : iprop(BI.own (ER (F := F) (initOf ringCells ringToks)) ∗ BI.own (ES (F := F) (initSlots Finset.univ 5)))
    ⊢ |={Set.univ}=> bigSep Finset.univ (G (F := F) m) := by
  iintro ⟨HX, HW⟩
  imod (fund_cells m) $$ HX with ⟨Hst, Hr, ⟨Hat, Hab⟩, ⟨HtS, HtR⟩, HtC, HtB⟩
  imod fund_slots $$ HW with ⟨Hinv, Hrd, Hwt⟩
  imodintro
  iapply (deal_all m)
  isplitl [Hr Hinv]
  · unfold known; isplitl [Hr] <;> iassumption
  isplitl [Hst]; · iexact Hst
  ihave HtS := (Entails.of_eq (sendToks (F := F))) $$ HtS
  ihave HtR := (Entails.of_eq (recvToks (F := F))) $$ HtR
  ihave HtC := (Entails.of_eq (credToks (F := F))) $$ HtC
  ihave HtB := (Entails.of_eq (barToks (F := F))) $$ HtB
  icases HtB with ⟨HtL, HtRt⟩
  iapply (Entails.of_eq (dealt_all (F := F)).symm)
  isplitr [Hab HtL HtRt]
  · isplitl [Hat]; · iexact Hat
    isplitl [HtS HtR Hwt]
    · isplitl [HtS]; · iexact HtS
      isplitl [HtR] <;> iassumption
    isplitl [HtC] <;> iassumption
  isplitl [Hab]; · iexact Hab
  isplitl [HtL] <;> iassumption

/-! ## The invariants of the cells -/

theorem ownSems0_eq (c : Dev nD) : (Pipeline.ownSems0 (Ix := ℕ) (Name := ℕ) (U := UU) (Lvl := ℕ) (Val := Elt F) (τ := τ) osem c : sProp 𝕄)
    = bigSep Finset.univ fun i : Fin 28 => semVal ((c : Thread nD τ), osem i) 0 := rfl
theorem unscopedSems0_eq (c : Dev nD) : (unscopedSems0 c : sProp 𝕄) = semVal (bc c) 0 := by
  unfold unscopedSems0; rw [bigSep_eq_bigSepL_of_eq [SemLoc.reg barS] (by decide) (by decide)]; rfl

theorem core_alloc (c : Dev nD) :
    iprop(Pipeline.ownSems0 (Ix := ℕ) (Name := ℕ) (U := UU) (Lvl := ℕ) (Val := Elt F) (τ := τ) osem c ∗ unscopedSems0 c ∗ G (F := F) m c)
      ⊢ |={Set.univ}=> iprop((bigSep Finset.univ fun k : Fin 29 => iprop(∃ κ : ℕ, cellInv ER (Rd (F := F) m) κ (kcell (c, k)))) ∗ known ∗ dealt c) := by
  have hv : iprop((bigSep Finset.univ fun i : Fin 28 => semVal ((c : Thread nD τ), osem i) 0) ∗ semVal (bc c) 0)
      ⊢ (bigSep Finset.univ fun k : Fin 29 => semVal (kcell (c, k)) 0 : sProp 𝕄) :=
    Entails.of_eq (cells_split fun s => (semVal ((c : Thread nD τ), s) 0 : sProp 𝕄)).symm
  have ha : iprop((bigSep Finset.univ fun k : Fin 29 => semVal (kcell (c, k)) 0) ∗ bigSep Finset.univ fun k : Fin 29 => roundState ER (Rd (F := F) m) (kcell (c, k)) 0)
      ⊢ (|={Set.univ}=> bigSep Finset.univ fun k : Fin 29 => iprop(∃ κ : ℕ, cellInv ER (Rd (F := F) m) κ (kcell (c, k))) : sProp 𝕄) := by
    rw [← bigSep_sep']
    exact (bigSep_mono fun k _ => (Rounds.body_intro ER (Rd (F := F) m) (kcell (c, k))).trans inv_alloc).trans (bigSep_fupd _ _)
  unfold G
  rw [ownSems0_eq, unscopedSems0_eq]
  iintro ⟨Hos, Hus, Hst, HK, Hd⟩
  ihave Hv := hv $$ [Hos Hus]
  · isplitl [Hos] <;> iassumption
  imod ha $$ [Hv Hst] with Hinv
  · isplitl [Hv] <;> iassumption
  imodintro
  isplitl [Hinv]; · iexact Hinv
  isplitl [HK] <;> iassumption

theorem regroup :
    (bigSep Finset.univ fun c : Dev nD => iprop((bigSep Finset.univ fun k : Fin 29 => iprop(∃ κ : ℕ, cellInv ER (Rd (F := F) m) κ (kcell (c, k)))) ∗ known ∗ dealt c))
      ⊢ bigSep Finset.univ (G' (F := F) m) := by
  have hk : bigSep Finset.univ (fun _ : Dev nD => known (F := F)) ⊢ known := bigSep_elim (Finset.mem_univ (0 : Dev nD))
  rw [bigSep_sep', bigSep_sep', ← bigSep_univ_prod (fun p : Dev nD × Fin 29 => iprop(∃ κ : ℕ, cellInv ER (Rd (F := F) m) κ (kcell p)))]
  have h : iprop((bigSep Finset.univ (fun p : Dev nD × Fin 29 => iprop(∃ κ : ℕ, cellInv ER (Rd (F := F) m) κ (kcell p))) ∗ known) ∗ bigSep Finset.univ (dealt (F := F)))
      ⊢ bigSep Finset.univ (G' (F := F) m) := bigSep_with_persistent fun c _ => Entails.refl _
  iintro ⟨HI, HK, Hd⟩
  ihave HK := hk $$ HK
  iapply h
  isplitl [HI HK]
  · isplitl [HI] <;> iassumption
  iexact Hd

/-- The step every device's semaphores go through at once. -/
theorem glob : (bigSep Finset.univ fun c => iprop(Pipeline.ownSems0 (Ix := ℕ) (Name := ℕ) (U := UU) (Lvl := ℕ) (Val := Elt F) (τ := τ) osem c ∗ unscopedSems0 c ∗ G (F := F) m c) : sProp 𝕄)
    ⊢ |={Set.univ}=> bigSep Finset.univ (G' (F := F) m) :=
  ((bigSep_mono fun c _ => core_alloc m c).trans (bigSep_fupd _ _)).trans (BI.fupd_mono (regroup m))

/-! ## The units of the launch -/

theorem units_R (c : Dev nD) (f : Fin 4) : (Pipeline.launchCred (fun d => OR d f 0) c : sProp 𝕄) ⊢ bigSep (Finset.Ico 0 15) (rcred c f) := by
  unfold OR rcred
  rw [Pipeline.launchCred_sum]
  exact bigSep_mono fun t _ => Pipeline.launchCred_tallyAt (.dma (recvS f (sl t))) (tgt f) (up f) (tgt_up f) (up_tgt f) t N c
theorem units_C (c : Dev nD) (f : Fin 4) : (Pipeline.launchCred (fun d => OC d f 0) c : sProp 𝕄) ⊢ bigSep (Finset.Ico 0 13) (ccred c f) := by
  unfold OC ccred
  rw [Pipeline.launchCred_sum]
  exact bigSep_mono fun r _ => Pipeline.launchCred_tallyAt (.reg (credS f)) (up f) (tgt f) (up_tgt f) (tgt_up f) r 1 c

theorem units_flow (c : Dev nD) (f : Fin 4) : (Pipeline.launchCred (fun d => owed0 d f) c : sProp 𝕄) ⊢ cF c f := by
  unfold owed0 cF
  rw [Pipeline.launchCred_add (fun d => OR d f 0) (fun d => OC d f 0)]
  exact BI.sep_mono (units_R c f) (units_C c f)

theorem units_B (c : Dev nD) : iprop(Pipeline.launchCred (fun d => tallyAt (bc (rt d)) 0 1) c ∗ Pipeline.launchCred (fun d => tallyAt (bc (lf d)) 0 1) c)
    ⊢ (cred (tallyAt (bc c) 0 2) : sProp 𝕄) := by
  rw [show (tallyAt (bc c) 0 2 : CellTallies nD τ sig ℕ) = tallyAt (bc c) 0 1 + tallyAt (bc c) 0 1 from (tallyAt_add (bc c) 0 1 1).symm]
  exact (BI.sep_mono (Pipeline.launchCred_tallyAt (.reg barS) rt lf rt_lf lf_rt 0 1 c) (Pipeline.launchCred_tallyAt (.reg barS) lf rt lf_rt rt_lf 0 1 c)).trans (cred_add _ _).2

theorem units_all (c : Dev nD) : (Pipeline.launchCred O₀ c : sProp 𝕄) ⊢ units c := by
  have e : (Pipeline.launchCred O₀ c : sProp 𝕄)
      = iprop((bigSep Finset.univ (fun f => Pipeline.launchCred (fun d => owed0 d f) c) ∗ Pipeline.launchCred (fun d => tallyAt (bc (rt d)) 0 1) c)
          ∗ Pipeline.launchCred (fun d => tallyAt (bc (lf d)) 0 1) c) := by
    rw [← Pipeline.launchCred_sum, ← Pipeline.launchCred_add, ← Pipeline.launchCred_add]; rfl
  rw [e]
  unfold units
  iintro ⟨⟨Hf, Hb⟩, Hb'⟩
  have h : bigSep Finset.univ (fun f => (Pipeline.launchCred (fun d => owed0 d f) c : sProp 𝕄)) ⊢ bigSep Finset.univ (cF (F := F) c) := bigSep_mono fun f _ => units_flow c f
  isplitl [Hf]; · iapply h; iexact Hf
  iapply (units_B c); isplitl [Hb] <;> iassumption

end Cert.RS

end
-- ==== Proof.Launch.lean ====
/-
# The run

The launch theorem at this kernel's protocol: from any memory with every counter at zero the sixteen devices' kernels
end, each device's result array holding `outAll`, its arguments as they were, every counter back at zero.
-/
module

public import proofs.«01_k».proof.Proof.Deal
public import Idealize.ShloMosaic.Lib.Pipeline.CollectiveSegs

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(start m c ∗ emp) := by
  iintro ⟨-, Hlev, Hcr, -, HG⟩
  ihave Hc := (units_all (F := F) c) $$ Hcr
  imodintro
  unfold start G' recs known
  icases HG with ⟨⟨HI, HR, HS⟩, Hd⟩
  isplitl
  · isplitl [Hlev HI HR HS]
    · isplitl [Hlev]; · iexact Hlev
      isplitl [HI]; · iexact HI
      isplitl [HR] <;> iassumption
    isplitl [Hd] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq, own_split fun s => (semVal ((c : Thread nD τ), s) 0 : sProp 𝕄)]
  unfold Φ₁ scr
  iintro ⟨Hz, Hb, Hr⟩
  isplitl [Hb]; · iexact Hb
  isplitl [Hz] <;> iassumption

/-- A staging semaphore lies at the lowest level. -/
theorem lv_stage : ∀ (w : Fin cfg0.W) (s : Fin (cfg0.win w).nbuf), lvOf (kind (.dma ((cfg0.win w).sem s))) 0 ≤ 0 := by decide +kernel

theorem waits (c : Dev nD) : (levAts L lv : sProp 𝕄) ⊢ Pipeline.cellsWaits cfgs (dats (F := F) m) 0 0 c :=
  Pipeline.cellsWaits_intro cfgs (dats (F := F) m) 0 0 c fun w s t => by
    have hA : Above 0 ((dats (F := F) m 0 c).owed t) := by
      rcases t with ⟨_ | _, ht⟩
      · exact above_O₀ c
      · exact Above.zero 0
    exact mayWait hA c _ 0 (by omega) (lv_stage w s)

/-- The arrays when the run ends. -/
def finalA (c : Dev nD) (w : Fin cfg0.W) : Buf (Elt F) ((cfg0.win w).arr.view.loc (c : Thread nD τ)) := (dats m 0 c).arrAt w cfg0.N

set_option maxRecDepth 100000 in
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb EW (initOf ringCells ringToks) (Idealize.ShloMosaic.Release.initSlots Finset.univ 5)) $$ HX
      imod (fund_ring m) $$ H with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m c (0 : Fin 3) = m ((cfg0.win 0).arr.view.loc (c : Thread nD τ)) := (dats (F := F) m 0 c).arrAt_in (0 : Fin 3) rfl _
theorem finalA_w (c : Dev nD) : finalA m c (1 : Fin 3) = m ((cfg0.win 1).arr.view.loc (c : Thread nD τ)) := (dats (F := F) m 0 c).arrAt_in (1 : Fin 3) rfl _

end Cert.RS

end
-- ==== Proof.Frames.lean ====
/-
# What the run says of the arguments

Each program ends with its argument arrays as they were and every counter at zero. The kernel's two readings are one
text, so the run written over any float values serves both.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Init

@[expose] public section

noncomputable section

namespace Cert.RS

open Idealize.ShloMosaic Idealize.ShloMosaic.TcCoe Idealize.SL.Sem
open Cert.KernelIdeal.Gen

variable {F : FTy → Type} [FloatOps F]

theorem args_kept (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 3)).trans (finalA_x m c), (h.1 c (1 : Fin 3)).trans (finalA_w m c)⟩, h.2⟩) (run_main m ρ)

theorem frame_ideal : Cert.quiescent_KernelIdeal := fun m ρ _ => args_kept m ρ

set_option maxRecDepth 100000 in
/-- The two printed body tables are the same table. -/
theorem bodies_same : Cert.Kernel.defs₀ (F := Bits) = Cert.KernelIdeal.defs₀ (F := Bits) := by
  unfold Cert.Kernel.defs₀ Cert.KernelIdeal.defs₀
  refine congrArg (Defs.onTc (Λ := Cert.KernelIdeal.Λ₀)) ?_
  funext l x
  match l, x with
  | ⟨0, _⟩, (t, s) => exact rfl
  | ⟨n + 1, h⟩, _ => exact absurd h (Nat.not_lt.2 (Nat.le_add_left _ _))

theorem defs_same : Cert.Kernel.defs (F := Bits) = Cert.KernelIdeal.defs (F := Bits) := congrArg (Pipeline.defs Cert.KernelIdeal.pcfgs) bodies_same

set_option maxRecDepth 100000 in
theorem frame_kernel : Cert.quiescent_Kernel := fun m ρ _ => by
  rw [defs_same]
  exact args_kept (F := Bits) m ρ

/-- The reference's program declares no semaphore. -/
theorem frame_ref : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

end Cert.RS

end
-- ==== Proof.Value.lean ====
/-
# What the result is, over the reals

At exact arithmetic the rounding between steps is the identity, so the block that reaches a device after fifteen
transfers, with its own product added, is the sum over all sixteen devices of their products for that device's rows:
one device's share of the contraction each.
-/
module

public import proofs.«01_k».proof.Proof.Launch
public import proofs.«01_k».proof.Proof.Gen.ReferenceIdeal.Run
public import Idealize.ShloMosaic.Lib.StackMember
public import Idealize.ShloMosaic.Lib.MatmulPlain
public import Idealize.ShloMosaic.Lib.Layout
public import Idealize.ShloMosaic.Lib.Pipeline.ValueKit.Geometry

@[expose] public section

noncomputable section

namespace Cert.RS

open Cert.KernelIdeal Cert.KernelIdeal.Gen

open Idealize.ShloMosaic Idealize.ShloMosaic.TcCoe Idealize.ShloMosaic.ValueIdx
open Idealize.SL.Sem
open scoped BigOperators

section
variable {F : FTy → Type} [FloatOps F] (m : (ℓ : Loc nD τ sig) → Buf (Elt F) ℓ)

theorem xv_eq (c : Dev nD) : xv m c = m ((c : Thread nD τ).loc main_arg0) := by
  funext i
  unfold xv
  blk_simp
  congr 1
  funext a
  apply Fin.ext
  blk_simp
  have h : ∀ a, win0_0.index (0 : Fin 1) a = 0 := fun _ => rfl
  rw [h]; omega

theorem wv_eq (c : Dev nD) : wv m c = m ((c : Thread nD τ).loc main_arg1) := by
  funext i
  unfold wv
  blk_simp
  congr 1
  funext a
  apply Fin.ext
  blk_simp
  have h : ∀ a, win0_1.index (0 : Fin 1) a = 0 := fun _ => rfl
  rw [h]; omega

/-- The result array ends at the value the flows leave. -/
theorem finalA_out (c : Dev nD) : finalA m c (2 : Fin 3) = outAll m c := by
  unfold finalA
  refine (dats m 0 c).arrAt_eq_of_after_last (2 : Fin 3) t0_0 (by decide +kernel) _ fun j => ?_
  blk_simp
  rfl

end

/-! ## Whose rows a product takes -/

/-- The device whose rows device `c` multiplies for flow `f` at its `j`-th product. -/
def owner (f : Fin 4) (c : Dev nD) (j : ℕ) : Fin 16 :=
  ⟨(if f.val % 2 = 0 then c.val + 32 - j else c.val + j) % 16, Nat.mod_lt _ (by decide)⟩

theorem rows_at : ∀ (f : Fin 4) (c : Dev nD) (j : Fin 16),
    k0_off1 c (k0_off1_at (rIx f (j.val + 1))) 0 = 512 * (owner f c (j.val + 1)).val ∧ k0_off1 c (k0_off1_at (rIx f (j.val + 1))) 1 = 0 := by
  decide +kernel

theorem owner_up : ∀ (f : Fin 4) (c : Dev nD) (s : Fin 15), owner f (up f c) (s.val + 1) = owner f c (s.val + 2) := by decide +kernel

theorem owner_last : ∀ (f : Fin 4) (c : Dev nD), owner f c 16 = c := by decide +kernel

/-- Sixteen steps upstream pass every device once. -/
theorem tour : ∀ (f : Fin 4) (c : Dev nD), Function.Bijective fun i : Fin 16 => (up f)^[i.val] c := by
  have h : ∀ (f : Fin 4) (c : Dev nD) (i j : Fin 16), (up f)^[i.val] c = (up f)^[j.val] c → i = j := by decide +kernel
  exact fun f c => (Finite.injective_iff_bijective (α := Fin 16)).mp fun i j e => h f c i j e

/-! ## The products, over the reals -/

variable (m : (ℓ : Loc nD τ sig) → Buf (Elt Ideal) ℓ)

/-- The two arguments on a device. -/
def xA (c : Dev nD) : FVec Ideal S8192x512 .f32 := m ((c : Thread nD τ).loc main_arg0)
def wA (c : Dev nD) : FVec Ideal S512x4096 .f32 := m ((c : Thread nD τ).loc main_arg1)

/-- Device `d`'s share of the entry at row `p` of device `t`'s rows and column `q` of flow `f`'s columns. -/
def share (f : Fin 4) (p : Fin 512) (q : Fin 1024) (d : Dev nD) (t : Fin 16) : EReal :=
  ∑ k : Fin 512, xA m d (ix2 ⟨512 * t.val + p.val, by have := t.isLt; have := p.isLt; omega⟩ k)
    * wA m d (ix2 k ⟨colOf f + q.val, by have := q.isLt; fin_cases f <;> simp only [colOf] <;> omega⟩)

theorem rows_read (c : Dev nD) (r : Fin 32) :
    (shapeCast S512x512 (xM.view.readAt (Elt Ideal) (rowR c r).toLoadRect (xv m c)) shapeCasts_S512x512_S512x512 : FVec Ideal S512x512 .f32)
      = fun i => xA m c ((rowR c r).emb i) := by
  refine (shapeCast_self (s := S512x512) _ _).trans ?_
  rw [xv_eq]; rfl

theorem cols_read (c : Dev nD) (f : Fin 4) :
    (shapeCast S512x1024 (wM.view.readAt (Elt Ideal) (colR f).toLoadRect (wv m c)) shapeCasts_S512x1024_S512x1024 : FVec Ideal S512x1024 .f32)
      = fun i => wA m c ((colR f).emb i) := by
  refine (shapeCast_self (s := S512x1024) _ _).trans ?_
  rw [wv_eq]; rfl

theorem prod_at (c : Dev nD) (f : Fin 4) (j : Fin 16) (p : Fin 512) (q : Fin 1024) :
    prod m c f (rIx f (j.val + 1)) (ix2 p q) = share m f p q c (owner f c (j.val + 1)) := by
  unfold prod share
  rw [rows_read, cols_read]
  refine (Ideal.matmul_plain_apply none _ _ _ p q).trans ?_
  have h0 : (constant S512x1024 .f32 0x00000000#32 : FVec Ideal S512x1024 .f32) (ix2 p q) = 0 := Ideal.ofBits_zero_f32
  rw [h0, zero_add]
  refine Finset.sum_congr rfl fun k _ => ?_
  obtain ⟨r0, r1⟩ := rows_at f c j
  congr 1
  · refine congrArg (xA m c) ?_
    funext a; apply Fin.ext
    match a with
    | ⟨0, _⟩ => show k0_off1 c (k0_off1_at (rIx f (j.val + 1))) 0 + 1 * p.val = 512 * _ + p.val; rw [r0]; omega
    | ⟨1, _⟩ => show k0_off1 c (k0_off1_at (rIx f (j.val + 1))) 1 + 1 * k.val = k.val; rw [r1]; omega
  · refine congrArg (wA m c) ?_
    funext a; apply Fin.ext
    match a with
    | ⟨0, _⟩ => show 0 + 1 * k.val = k.val; omega
    | ⟨1, _⟩ => show colOf f + 1 * q.val = colOf f + q.val; omega

/-- The block device `c` passes on after its `s + 1`-th product holds the shares of the last `s + 1` devices. -/
theorem blk_at (f : Fin 4) (p : Fin 512) (q : Fin 1024) : ∀ (s : ℕ) (_ : s < 15) (c : Dev nD),
    blk m s f c (ix2 p q) = ∑ i ∈ Finset.range (s + 1), share m f p q ((up f)^[i] c) (owner f c (s + 1))
  | 0, _, c => by
    rw [Finset.sum_range_one]
    exact prod_at m c f 0 p q
  | s + 1, hs, c => by
    show blk m s f (up f c) (ix2 p q) + prod m c f (rIx f (s + 2)) (ix2 p q) = _
    rw [blk_at f p q s (by omega) (up f c), owner_up f c ⟨s, by omega⟩, Finset.sum_range_succ' _ (s + 1), prod_at m c f ⟨s + 1, by omega⟩ p q]
    rfl

/-- The result's entry: every device's share. -/
theorem outv_at (f : Fin 4) (c : Dev nD) (p : Fin 512) (q : Fin 1024) : outv m f c (ix2 p q) = ∑ d : Dev nD, share m f p q d c := by
  have h : outv m f c (ix2 p q) = ∑ i ∈ Finset.range 16, share m f p q ((up f)^[i] c) (owner f c 16) := by
    show blk m 14 f (up f c) (ix2 p q) + prod m c f (rIx f 16) (ix2 p q) = _
    rw [blk_at m f p q 14 (by omega) (up f c), owner_up f c ⟨14, by omega⟩, Finset.sum_range_succ' _ 15]
    exact congrArg _ (prod_at m c f ⟨15, by omega⟩ p q)
  rw [h, Finset.sum_range, owner_last]
  exact (tour f c).sum_comp fun d => share m f p q d c

/-- A sum over the whole contraction is the sum over the devices of the sums over their parts. -/
theorem sum_parts (h : Fin 8192 → EReal) :
    ∑ K : Fin 8192, h K = ∑ d : Fin 16, ∑ k : Fin 512, h ⟨512 * d.val + k.val, by have := d.isLt; have := k.isLt; omega⟩ := by
  rw [← (finProdFinEquiv (m := 16) (n := 512)).sum_comp h, Fintype.sum_prod_type]
  refine Finset.sum_congr rfl fun d _ => Finset.sum_congr rfl fun k _ => congrArg h (Fin.ext ?_)
  exact Nat.add_comm k.val (512 * d.val)

theorem colOf_flowOf : ∀ g : Fin 4, colOf (flowOf g) = 1024 * g.val := by decide

variable (X : FVec Ideal ⟨2, ![8192, 8192]⟩ .f32) (W : FVec Ideal ⟨2, ![8192, 4096]⟩ .f32)

/-- Device `c`'s result is its block of rows of the whole product. -/
theorem out_block (hx : ∀ c : Dev nD, xA m c = Layout.block ⟨2, ![8192, 512]⟩ ⟨2, ![8192, 8192]⟩ 1 16 c X)
    (hw : ∀ c : Dev nD, wA m c = Layout.block ⟨2, ![512, 4096]⟩ ⟨2, ![8192, 4096]⟩ 0 16 c W) (c : Dev nD) :
    outAll m c = Layout.block ⟨2, ![512, 4096]⟩ ⟨2, ![8192, 4096]⟩ 0 16 c (Host.dotGeneral (DotDims.plain 8192 8192 4096) none X W) := by
  funext i
  have l0 : (i (0 : Fin 2)).val < 512 := (i (0 : Fin 2)).isLt
  have l1 : (i (1 : Fin 2)).val < 4096 := (i (1 : Fin 2)).isLt
  have hc : c.val < 16 := c.isLt
  rw [Layout.block_apply]
  have e : Layout.Tiles.idx (S := ⟨2, ![512, 4096]⟩) (T := ⟨2, ![8192, 4096]⟩) (a := 0) (k := 16) (by decide) c i
      = ix2 (⟨512 * c.val + (i (0 : Fin 2)).val, by omega⟩ : Fin 8192) (⟨(i (1 : Fin 2)).val, l1⟩ : Fin 4096) := by
    funext a; apply Fin.ext
    match a with
    | ⟨0, _⟩ => rw [Layout.Tiles.idx_val]; show c.val * 512 + (i (0 : Fin 2)).val = 512 * c.val + (i (0 : Fin 2)).val; omega
    | ⟨1, _⟩ => rw [Layout.Tiles.idx_val]; rfl
  refine Eq.trans ?_ (congrArg _ e).symm
  rw [StackMember.dotGeneral_plain_apply, sum_parts]
  refine (outv_at m _ c ⟨_, l0⟩ ⟨(i (1 : Fin 2)).val % 1024, Nat.mod_lt _ (by decide)⟩).trans ?_
  refine Finset.sum_congr rfl fun d _ => Finset.sum_congr rfl fun k _ => ?_
  rw [hx, hw, Layout.block_apply, Layout.block_apply]
  congr 1
  · refine congrArg X ?_
    funext a; apply Fin.ext
    match a with
    | ⟨0, _⟩ => rw [Layout.Tiles.idx_val]; rfl
    | ⟨1, _⟩ => rw [Layout.Tiles.idx_val]; show d.val * 512 + k.val = 512 * d.val + k.val; omega
  · refine congrArg W ?_
    funext a; apply Fin.ext
    match a with
    | ⟨0, _⟩ => rw [Layout.Tiles.idx_val]; show d.val * 512 + k.val = 512 * d.val + k.val; omega
    | ⟨1, _⟩ =>
      rw [Layout.Tiles.idx_val]
      show colOf (flowOf _) + (i (1 : Fin 2)).val % 1024 = (i (1 : Fin 2)).val
      rw [colOf_flowOf]
      show 1024 * ((i (1 : Fin 2)).val / 1024) + (i (1 : Fin 2)).val % 1024 = (i (1 : Fin 2)).val
      omega

end Cert.RS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's result on each device is that device's block of rows of the reference's product. -/
theorem same_product : Cert.algebraic_KernelIdeal_ReferenceIdeal := fun m g m' g' _ hA =>
  ⟨_,
    (θ_run Cert.KernelIdeal.defs _ _).mono
      (fun _ h c => ⟨((h.1 c (2 : Fin 3)).trans (Cert.RS.finalA_out m c)).trans
          (Cert.RS.out_block m _ _ (fun d => (hA d).1) (fun d => (hA d).2) c),
        (h.1 c (0 : Fin 3)).trans (Cert.RS.finalA_x m c), (h.1 c (1 : Fin 3)).trans (Cert.RS.finalA_w m c)⟩)
      (Cert.RS.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  Cert.RS.frame_kernel, Cert.RS.frame_ideal, Cert.RS.frame_ref, trivial, same_product⟩

end Cert.Proof

end
